-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_features [hPre_finite_features : Cert.Pre_finite_features.Facts] (m : (ℓ : Loc Cert.KernelIdeal.nD Cert.KernelIdeal.τ Cert.KernelIdeal.sig) → Buf (Elt Ideal) ℓ) : Prop :=
  ∀ c : Dev Cert.KernelIdeal.nD,
    (Cert.Pre_finite_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_features [hPre_finite_features : Cert.Pre_finite_features.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_features [hKernelIdeal : Cert.KernelIdeal.Facts] [hPre_finite_features : Cert.Pre_finite_features.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_features m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_features [hReferenceIdeal : Cert.ReferenceIdeal.Facts] [hPre_finite_features : Cert.Pre_finite_features.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_features m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_sector" .f32 0x4022F983#32 ((33554432 / 13176795 : ℝ) : EReal)

def algebraic_KernelIdeal_ReferenceIdeal_pre_finite_features [hKernelIdeal : Cert.KernelIdeal.Facts] [hReferenceIdeal : Cert.ReferenceIdeal.Facts] [hPre_finite_features : Cert.Pre_finite_features.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_features m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_features : Cert.Pre_finite_features.Facts),
    quiescent_Kernel (hKernel := hKernel)
    ∧ quiescent_KernelIdeal (hKernelIdeal := hKernelIdeal)
    ∧ quiescent_KernelIdeal_pre_finite_features (hKernelIdeal := hKernelIdeal) (hPre_finite_features := hPre_finite_features)
    ∧ quiescent_ReferenceIdeal (hReferenceIdeal := hReferenceIdeal)
    ∧ quiescent_ReferenceIdeal_pre_finite_features (hReferenceIdeal := hReferenceIdeal) (hPre_finite_features := hPre_finite_features)
    ∧ preserves_Kernel_KernelIdeal
    ∧ algebraic_KernelIdeal_ReferenceIdeal_pre_finite_features (hKernelIdeal := hKernelIdeal) (hReferenceIdeal := hReferenceIdeal) (hPre_finite_features := hPre_finite_features)
-- ==== Pre_finite_features.lean ====
abbrev S32x64x18x2 : Shape := ⟨4, ![32, 64, 18, 2]⟩
abbrev S32x64x2 : Shape := ⟨3, ![32, 64, 2]⟩
abbrev S32x64x1 : Shape := ⟨3, ![32, 64, 1]⟩
abbrev S8x19x3x16x2 : Shape := ⟨5, ![8, 19, 3, 16, 2]⟩
abbrev S8x19x8 : Shape := ⟨3, ![8, 19, 8]⟩
abbrev S16x16x3x16x8 : Shape := ⟨5, ![16, 16, 3, 16, 8]⟩
abbrev S16x16x8 : Shape := ⟨3, ![16, 16, 8]⟩
abbrev S_ : Shape := ⟨0, ![]⟩

class Facts : Prop where
  bcast_S_S32x64x1 : S_.BroadcastsInDim S32x64x1 (![] : Fin 0 → Fin S32x64x1.rank)
  reducesTo_S32x64x1_S_d0_1_2 : S32x64x1.ReducesTo [0, 1, 2] S_
  h_S_ : 0 < S_.numel
  bcast_S_S32x64x2 : S_.BroadcastsInDim S32x64x2 (![] : Fin 0 → Fin S32x64x2.rank)
  reducesTo_S32x64x2_S_d0_1_2 : S32x64x2.ReducesTo [0, 1, 2] S_
  bcast_S_S32x64x18x2 : S_.BroadcastsInDim S32x64x18x2 (![] : Fin 0 → Fin S32x64x18x2.rank)
  reducesTo_S32x64x18x2_S_d0_1_2_3 : S32x64x18x2.ReducesTo [0, 1, 2, 3] S_
  bcast_S_S8x19x3x16x2 : S_.BroadcastsInDim S8x19x3x16x2 (![] : Fin 0 → Fin S8x19x3x16x2.rank)
  reducesTo_S8x19x3x16x2_S_d0_1_2_3_4 : S8x19x3x16x2.ReducesTo [0, 1, 2, 3, 4] S_
  bcast_S_S8x19x8 : S_.BroadcastsInDim S8x19x8 (![] : Fin 0 → Fin S8x19x8.rank)
  reducesTo_S8x19x8_S_d0_1_2 : S8x19x8.ReducesTo [0, 1, 2] S_

variable [Facts]

def fn_part1 {F : FTy → Type} [FloatOps F] (main_arg6 : FVec F S8x19x8 .f32) (main_v12 : IVec S_ 1) (main_v15 : IVec S8x19x3x16x2 1) (main_c_5 : IVec S_ 1) : IVec S_ 1 :=
  let main_v16 : IVec S_ 1 := (fun x v => Host.reduce IntOp.andi x v reducesTo_S8x19x3x16x2_S_d0_1_2_3_4 h_S_) main_v15 main_c_5
  let main_v17 : IVec S_ 1 := andi main_v12 main_v16
  let main_v18 : FVec F S8x19x8 .f32 := Host.absf main_arg6
  let main_cst_6 : FVec F S_ .f32 := constant S_ .f32 0x7F800000#32
  let main_v19 : FVec F S8x19x8 .f32 := broadcastInDim S8x19x8 ![] bcast_S_S8x19x8 main_cst_6
  let main_v20 : IVec S8x19x8 1 := cmpf .olt main_v18 main_v19
  let main_c_7 : IVec S_ 1 := constantI S_ 1 1#1
  let main_v21 : IVec S_ 1 := (fun x v => Host.reduce IntOp.andi x v reducesTo_S8x19x8_S_d0_1_2 h_S_) main_v20 main_c_7
  let main_v22 : IVec S_ 1 := andi main_v17 main_v21
  main_v22

def fn {F : FTy → Type} [FloatOps F] (main_arg0 : FVec F S32x64x18x2 .f32) (main_arg1 : FVec F S32x64x18x2 .f32) (main_arg2 : FVec F S32x64x2 .f32) (main_arg3 : FVec F S32x64x2 .f32) (main_arg4 : FVec F S32x64x1 .f32) (main_arg5 : FVec F S8x19x3x16x2 .f32) (main_arg6 : FVec F S8x19x8 .f32) (main_arg7 : FVec F S16x16x3x16x8 .f32) (main_arg8 : FVec F S16x16x8 .f32) (main_arg9 : FVec F S16x16x3x16x8 .f32) (main_arg10 : FVec F S16x16x8 .f32) : IVec S_ 1 :=
  let main_cst : FVec F S_ .f32 := constant S_ .f32 0x00000000#32
  let main_v0 : FVec F S32x64x1 .f32 := broadcastInDim S32x64x1 ![] bcast_S_S32x64x1 main_cst
  let main_v1 : IVec S32x64x1 1 := cmpf .oge main_arg4 main_v0
  let main_c : IVec S_ 1 := constantI S_ 1 1#1
  let main_v2 : IVec S_ 1 := (fun x v => Host.reduce IntOp.andi x v reducesTo_S32x64x1_S_d0_1_2 h_S_) main_v1 main_c
  let main_v3 : FVec F S32x64x2 .f32 := Host.absf main_arg3
  let main_cst_0 : FVec F S_ .f32 := constant S_ .f32 0x7F800000#32
  let main_v4 : FVec F S32x64x2 .f32 := broadcastInDim S32x64x2 ![] bcast_S_S32x64x2 main_cst_0
  let main_v5 : IVec S32x64x2 1 := cmpf .olt main_v3 main_v4
  let main_c_1 : IVec S_ 1 := constantI S_ 1 1#1
  let main_v6 : IVec S_ 1 := (fun x v => Host.reduce IntOp.andi x v reducesTo_S32x64x2_S_d0_1_2 h_S_) main_v5 main_c_1
  let main_v7 : IVec S_ 1 := andi main_v2 main_v6
  let main_v8 : FVec F S32x64x18x2 .f32 := Host.absf main_arg1
  let main_cst_2 : FVec F S_ .f32 := constant S_ .f32 0x7F800000#32
  let main_v9 : FVec F S32x64x18x2 .f32 := broadcastInDim S32x64x18x2 ![] bcast_S_S32x64x18x2 main_cst_2
  let main_v10 : IVec S32x64x18x2 1 := cmpf .olt main_v8 main_v9
  let main_c_3 : IVec S_ 1 := constantI S_ 1 1#1
  let main_v11 : IVec S_ 1 := (fun x v => Host.reduce IntOp.andi x v reducesTo_S32x64x18x2_S_d0_1_2_3 h_S_) main_v10 main_c_3
  let main_v12 : IVec S_ 1 := andi main_v7 main_v11
  let main_v13 : FVec F S8x19x3x16x2 .f32 := Host.absf main_arg5
  let main_cst_4 : FVec F S_ .f32 := constant S_ .f32 0x7F800000#32
  let main_v14 : FVec F S8x19x3x16x2 .f32 := broadcastInDim S8x19x3x16x2 ![] bcast_S_S8x19x3x16x2 main_cst_4
  let main_v15 : IVec S8x19x3x16x2 1 := cmpf .olt main_v13 main_v14
  let main_c_5 : IVec S_ 1 := constantI S_ 1 1#1
  fn_part1 (F := F) main_arg6 main_v12 main_v15 main_c_5
-- ==== Kernel.lean ====
abbrev S32x64x18x2 : Shape := ⟨4, ![32, 64, 18, 2]⟩
abbrev S32x64x2 : Shape := ⟨3, ![32, 64, 2]⟩
abbrev S32x64x1 : Shape := ⟨3, ![32, 64, 1]⟩
abbrev S8x19x3x16x2 : Shape := ⟨5, ![8, 19, 3, 16, 2]⟩
abbrev S8x19x8 : Shape := ⟨3, ![8, 19, 8]⟩
abbrev S16x16x3x16x8 : Shape := ⟨5, ![16, 16, 3, 16, 8]⟩
abbrev S16x16x8 : Shape := ⟨3, ![16, 16, 8]⟩
abbrev S8x8x8 : Shape := ⟨3, ![8, 8, 8]⟩
abbrev S16x2x16x8x2 : Shape := ⟨5, ![16, 2, 16, 8, 2]⟩
abbrev S2x8x8 : Shape := ⟨3, ![2, 8, 8]⟩
abbrev S16x1x16x1x8 : Shape := ⟨5, ![16, 1, 16, 1, 8]⟩
abbrev S1x8x1x8x8 : Shape := ⟨5, ![1, 8, 1, 8, 8]⟩
abbrev S16x8x16x8x8 : Shape := ⟨5, ![16, 8, 16, 8, 8]⟩
abbrev S16x8x8x16x16x3 : Shape := ⟨6, ![16, 8, 8, 16, 16, 3]⟩
abbrev S16x8x3x16x16x8 : Shape := ⟨6, ![16, 8, 3, 16, 16, 8]⟩
abbrev S128x6144 : Shape := ⟨2, ![128, 6144]⟩
abbrev S256x6144 : Shape := ⟨2, ![256, 6144]⟩
abbrev S8x8x16x16 : Shape := ⟨4, ![8, 8, 16, 16]⟩
abbrev S16x8x16x8 : Shape := ⟨4, ![16, 8, 16, 8]⟩
abbrev S128x128 : Shape := ⟨2, ![128, 128]⟩
abbrev S256x128 : Shape := ⟨2, ![256, 128]⟩
abbrev S16x8x2x8x19x3 : Shape := ⟨6, ![16, 8, 2, 8, 19, 3]⟩
abbrev S19x2x3x16x8x8 : Shape := ⟨6, ![19, 2, 3, 16, 8, 8]⟩
abbrev S38x3072 : Shape := ⟨2, ![38, 3072]⟩
abbrev S2x8x8x19 : Shape := ⟨4, ![2, 8, 8, 19]⟩
abbrev S19x2x8x8 : Shape := ⟨4, ![19, 2, 8, 8]⟩
abbrev S38x64 : Shape := ⟨2, ![38, 64]⟩
abbrev S32x64x1x2 : Shape := ⟨4, ![32, 64, 1, 2]⟩
abbrev S32x64x19x2 : Shape := ⟨4, ![32, 64, 19, 2]⟩
abbrev S32x64x38 : Shape := ⟨3, ![32, 64, 38]⟩
abbrev S32x64 : Shape := ⟨2, ![32, 64]⟩
abbrev S32x1x64 : Shape := ⟨3, ![32, 1, 64]⟩
abbrev S_ : Shape := ⟨0, ![]⟩
abbrev S32x5x64 : Shape := ⟨3, ![32, 5, 64]⟩
abbrev S32x8x64 : Shape := ⟨3, ![32, 8, 64]⟩
abbrev S32x64x8 : Shape := ⟨3, ![32, 64, 8]⟩
abbrev S32x64x128 : Shape := ⟨3, ![32, 64, 128]⟩
abbrev S1x8x64 : Shape := ⟨3, ![1, 8, 64]⟩
abbrev S1x64x8 : Shape := ⟨3, ![1, 64, 8]⟩
abbrev S1x64x38 : Shape := ⟨3, ![1, 64, 38]⟩
abbrev S1x64x128 : Shape := ⟨3, ![1, 64, 128]⟩
abbrev S1x1x64 : Shape := ⟨3, ![1, 1, 64]⟩
abbrev S1x64 : Shape := ⟨2, ![1, 64]⟩
abbrev S1x64x1 : Shape := ⟨3, ![1, 64, 1]⟩
abbrev S64x1 : Shape := ⟨2, ![64, 1]⟩
abbrev S64x64 : Shape := ⟨2, ![64, 64]⟩
abbrev S64 : Shape := ⟨1, ![64]⟩
abbrev S64x128 : Shape := ⟨2, ![64, 128]⟩
abbrev S64x38 : Shape := ⟨2, ![64, 38]⟩
abbrev S64x3072 : Shape := ⟨2, ![64, 3072]⟩
abbrev S128x64 : Shape := ⟨2, ![128, 64]⟩
abbrev S64x6144 : Shape := ⟨2, ![64, 6144]⟩

abbrev nBuf : Space → Nat
  | .hbm => 72
  | .vmem => 12
  | .smem => 0
  | _ => 0

abbrev bufTy : (tb : Table) → Fin (tcTables nBuf tb) → BufTy
  | .hbm, ⟨0, _⟩ => ⟨S32x64x18x2, .f32⟩
  | .hbm, ⟨1, _⟩ => ⟨S32x64x18x2, .f32⟩
  | .hbm, ⟨2, _⟩ => ⟨S32x64x2, .f32⟩
  | .hbm, ⟨3, _⟩ => ⟨S32x64x2, .f32⟩
  | .hbm, ⟨4, _⟩ => ⟨S32x64x1, .f32⟩
  | .hbm, ⟨5, _⟩ => ⟨S8x19x3x16x2, .f32⟩
  | .hbm, ⟨6, _⟩ => ⟨S8x19x8, .f32⟩
  | .hbm, ⟨7, _⟩ => ⟨S16x16x3x16x8, .f32⟩
  | .hbm, ⟨8, _⟩ => ⟨S16x16x8, .f32⟩
  | .hbm, ⟨9, _⟩ => ⟨S16x16x3x16x8, .f32⟩
  | .hbm, ⟨10, _⟩ => ⟨S16x16x8, .f32⟩
  | .hbm, ⟨11, _⟩ => ⟨S16x16x8, .f32⟩
  | .hbm, ⟨12, _⟩ => ⟨S8x8x8, .f32⟩
  | .hbm, ⟨13, _⟩ => ⟨S8x8x8, .bf16⟩
  | .hbm, ⟨14, _⟩ => ⟨S8x8x8, .bf16⟩
  | .hbm, ⟨15, _⟩ => ⟨S16x2x16x8x2, .f32⟩
  | .hbm, ⟨16, _⟩ => ⟨S2x8x8, .f32⟩
  | .hbm, ⟨17, _⟩ => ⟨S16x1x16x1x8, .f32⟩
  | .hbm, ⟨18, _⟩ => ⟨S1x8x1x8x8, .f32⟩
  | .hbm, ⟨19, _⟩ => ⟨S16x8x16x8x8, .f32⟩
  | .hbm, ⟨20, _⟩ => ⟨S16x8x16x8x8, .f32⟩
  | .hbm, ⟨21, _⟩ => ⟨S16x8x16x8x8, .f32⟩
  | .hbm, ⟨22, _⟩ => ⟨S16x8x16x8x8, .bf16⟩
  | .hbm, ⟨23, _⟩ => ⟨S16x16x3x16x8, .bf16⟩
  | .hbm, ⟨24, _⟩ => ⟨S16x8x8x16x16x3, .f32⟩
  | .hbm, ⟨25, _⟩ => ⟨S16x8x3x16x16x8, .f32⟩
  | .hbm, ⟨26, _⟩ => ⟨S16x8x3x16x16x8, .bf16⟩
  | .hbm, ⟨27, _⟩ => ⟨S128x6144, .bf16⟩
  | .hbm, ⟨28, _⟩ => ⟨S16x16x3x16x8, .bf16⟩
  | .hbm, ⟨29, _⟩ => ⟨S16x8x8x16x16x3, .f32⟩
  | .hbm, ⟨30, _⟩ => ⟨S16x8x3x16x16x8, .f32⟩
  | .hbm, ⟨31, _⟩ => ⟨S16x8x3x16x16x8, .bf16⟩
  | .hbm, ⟨32, _⟩ => ⟨S128x6144, .bf16⟩
  | .hbm, ⟨33, _⟩ => ⟨S256x6144, .bf16⟩
  | .hbm, ⟨34, _⟩ => ⟨S16x16x8, .bf16⟩
  | .hbm, ⟨35, _⟩ => ⟨S8x8x16x16, .f32⟩
  | .hbm, ⟨36, _⟩ => ⟨S16x8x16x8, .f32⟩
  | .hbm, ⟨37, _⟩ => ⟨S16x8x16x8, .bf16⟩
  | .hbm, ⟨38, _⟩ => ⟨S128x128, .bf16⟩
  | .hbm, ⟨39, _⟩ => ⟨S16x16x8, .bf16⟩
  | .hbm, ⟨40, _⟩ => ⟨S8x8x16x16, .f32⟩
  | .hbm, ⟨41, _⟩ => ⟨S16x8x16x8, .f32⟩
  | .hbm, ⟨42, _⟩ => ⟨S16x8x16x8, .bf16⟩
  | .hbm, ⟨43, _⟩ => ⟨S128x128, .bf16⟩
  | .hbm, ⟨44, _⟩ => ⟨S256x128, .bf16⟩
  | .hbm, ⟨45, _⟩ => ⟨S8x19x3x16x2, .bf16⟩
  | .hbm, ⟨46, _⟩ => ⟨S16x2x16x8x2, .bf16⟩
  | .hbm, ⟨47, _⟩ => ⟨S16x8x2x8x19x3, .f32⟩
  | .hbm, ⟨48, _⟩ => ⟨S19x2x3x16x8x8, .f32⟩
  | .hbm, ⟨49, _⟩ => ⟨S19x2x3x16x8x8, .bf16⟩
  | .hbm, ⟨50, _⟩ => ⟨S38x3072, .bf16⟩
  | .hbm, ⟨51, _⟩ => ⟨S8x19x8, .bf16⟩
  | .hbm, ⟨52, _⟩ => ⟨S2x8x8, .bf16⟩
  | .hbm, ⟨53, _⟩ => ⟨S2x8x8x19, .f32⟩
  | .hbm, ⟨54, _⟩ => ⟨S19x2x8x8, .f32⟩
  | .hbm, ⟨55, _⟩ => ⟨S19x2x8x8, .bf16⟩
  | .hbm, ⟨56, _⟩ => ⟨S38x64, .bf16⟩
  | .hbm, ⟨57, _⟩ => ⟨S32x64x1x2, .f32⟩
  | .hbm, ⟨58, _⟩ => ⟨S32x64x19x2, .f32⟩
  | .hbm, ⟨59, _⟩ => ⟨S32x64x38, .f32⟩
  | .hbm, ⟨60, _⟩ => ⟨S32x64x1, .f32⟩
  | .hbm, ⟨61, _⟩ => ⟨S32x64, .f32⟩
  | .hbm, ⟨62, _⟩ => ⟨S32x1x64, .f32⟩
  | .hbm, ⟨63, _⟩ => ⟨S32x64x1, .f32⟩
  | .hbm, ⟨64, _⟩ => ⟨S32x64, .f32⟩
  | .hbm, ⟨65, _⟩ => ⟨S32x1x64, .f32⟩
  | .hbm, ⟨66, _⟩ => ⟨S32x1x64, .f32⟩
  | .hbm, ⟨67, _⟩ => ⟨S_, .f32⟩
  | .hbm, ⟨68, _⟩ => ⟨S32x5x64, .f32⟩
  | .hbm, ⟨69, _⟩ => ⟨S32x8x64, .f32⟩
  | .hbm, ⟨70, _⟩ => ⟨S32x64x8, .f32⟩
  | .hbm, ⟨71, _⟩ => ⟨S32x64x128, .f32⟩
  | .local _ .vmem, ⟨0, _⟩ => ⟨S1x8x64, .f32⟩
  | .local _ .vmem, ⟨1, _⟩ => ⟨S1x8x64, .f32⟩
  | .local _ .vmem, ⟨2, _⟩ => ⟨S1x64x8, .f32⟩
  | .local _ .vmem, ⟨3, _⟩ => ⟨S1x64x8, .f32⟩
  | .local _ .vmem, ⟨4, _⟩ => ⟨S1x64x38, .f32⟩
  | .local _ .vmem, ⟨5, _⟩ => ⟨S1x64x38, .f32⟩
  | .local _ .vmem, ⟨6, _⟩ => ⟨S38x3072, .bf16⟩
  | .local _ .vmem, ⟨7, _⟩ => ⟨S38x64, .bf16⟩
  | .local _ .vmem, ⟨8, _⟩ => ⟨S256x6144, .bf16⟩
  | .local _ .vmem, ⟨9, _⟩ => ⟨S256x128, .bf16⟩
  | .local _ .vmem, ⟨10, _⟩ => ⟨S1x64x128, .f32⟩
  | .local _ .vmem, ⟨11, _⟩ => ⟨S1x64x128, .f32⟩
  | _, _ => ⟨S32x64x18x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_cst_2 : Ref sig .tc := ⟨.hbm, 14, rfl⟩
abbrev main_cst_3 : Ref sig .tc := ⟨.hbm, 15, rfl⟩
abbrev main_cst_4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x38 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S38x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S38x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_sector" => some ((33554432 / 13176795 : ℝ) : EReal)
  | _ => none
-- ==== ReferenceIdeal.lean ====
abbrev S32x64x18x2 : Shape := ⟨4, ![32, 64, 18, 2]⟩
abbrev S32x64x2 : Shape := ⟨3, ![32, 64, 2]⟩
abbrev S32x64x1 : Shape := ⟨3, ![32, 64, 1]⟩
abbrev S8x19x3x16x2 : Shape := ⟨5, ![8, 19, 3, 16, 2]⟩
abbrev S8x19x8 : Shape := ⟨3, ![8, 19, 8]⟩
abbrev S16x16x3x16x8 : Shape := ⟨5, ![16, 16, 3, 16, 8]⟩
abbrev S16x16x8 : Shape := ⟨3, ![16, 16, 8]⟩
abbrev S8 : Shape := ⟨1, ![8]⟩
abbrev S8x16 : Shape := ⟨2, ![8, 16]⟩
abbrev S15 : Shape := ⟨1, ![15]⟩
abbrev S8x8 : Shape := ⟨2, ![8, 8]⟩
abbrev S32x64x1x2 : Shape := ⟨4, ![32, 64, 1, 2]⟩
abbrev S32x64x19x2 : Shape := ⟨4, ![32, 64, 19, 2]⟩
abbrev S32x1x64x2 : Shape := ⟨4, ![32, 1, 64, 2]⟩
abbrev S32x64x64x2 : Shape := ⟨4, ![32, 64, 64, 2]⟩
abbrev S_ : Shape := ⟨0, ![]⟩
abbrev S32x64x64 : Shape := ⟨3, ![32, 64, 64]⟩
abbrev S32x64x64x1 : Shape := ⟨4, ![32, 64, 64, 1]⟩
abbrev S1x1x1x3 : Shape := ⟨4, ![1, 1, 1, 3]⟩
abbrev S32x64x64x3 : Shape := ⟨4, ![32, 64, 64, 3]⟩
abbrev S1x1x1x16 : Shape := ⟨4, ![1, 1, 1, 16]⟩
abbrev S32x64x64x16 : Shape := ⟨4, ![32, 64, 64, 16]⟩
abbrev S32x64x64x3x1 : Shape := ⟨5, ![32, 64, 64, 3, 1]⟩
abbrev S32x64x64x1x16 : Shape := ⟨5, ![32, 64, 64, 1, 16]⟩
abbrev S32x64x64x3x16 : Shape := ⟨5, ![32, 64, 64, 3, 16]⟩
abbrev S32x64 : Shape := ⟨2, ![32, 64]⟩
abbrev S32x1x64 : Shape := ⟨3, ![32, 1, 64]⟩
abbrev S32x64x64x1x1 : Shape := ⟨5, ![32, 64, 64, 1, 1]⟩
abbrev S32x64x19x1 : Shape := ⟨4, ![32, 64, 19, 1]⟩
abbrev S1x1x1x8 : Shape := ⟨4, ![1, 1, 1, 8]⟩
abbrev S32x64x19x8 : Shape := ⟨4, ![32, 64, 19, 8]⟩
abbrev S32x64x19x8x1 : Shape := ⟨5, ![32, 64, 19, 8, 1]⟩
abbrev S32x64x19x8x2 : Shape := ⟨5, ![32, 64, 19, 8, 2]⟩
abbrev S32x64x8x8x3x16 : Shape := ⟨6, ![32, 64, 8, 8, 3, 16]⟩
abbrev S8x16x1 : Shape := ⟨3, ![8, 16, 1]⟩
abbrev S32x64x64x3x8x16 : Shape := ⟨6, ![32, 64, 64, 3, 8, 16]⟩
abbrev S32x8x8x64 : Shape := ⟨4, ![32, 8, 8, 64]⟩
abbrev S32x64x8x8 : Shape := ⟨4, ![32, 64, 8, 8]⟩
abbrev S32x64x1x1 : Shape := ⟨4, ![32, 64, 1, 1]⟩
abbrev S1x1x1x15 : Shape := ⟨4, ![1, 1, 1, 15]⟩
abbrev S32x64x19x15 : Shape := ⟨4, ![32, 64, 19, 15]⟩
abbrev S8x8x1 : Shape := ⟨3, ![8, 8, 1]⟩
abbrev S32x64x19x8x8 : Shape := ⟨5, ![32, 64, 19, 8, 8]⟩
abbrev S32x64x16x8 : Shape := ⟨4, ![32, 64, 16, 8]⟩
abbrev S32x64x16x8x8 : Shape := ⟨5, ![32, 64, 16, 8, 8]⟩
abbrev S32x64x8x16x3x16 : Shape := ⟨6, ![32, 64, 8, 16, 3, 16]⟩
abbrev S32x64x16x8x3x16 : Shape := ⟨6, ![32, 64, 16, 8, 3, 16]⟩
abbrev S32x8x16x64 : Shape := ⟨4, ![32, 8, 16, 64]⟩
abbrev S32x64x8x16 : Shape := ⟨4, ![32, 64, 8, 16]⟩
abbrev S32x64x128 : Shape := ⟨3, ![32, 64, 128]⟩

abbrev nBuf : Space → Nat
  | .hbm => 324
  | .vmem => 0
  | .smem => 0
  | _ => 0

abbrev hbmTy0_0 (i : Nat) : BufTy := match i % 128 with
  | 0 => ⟨S32x64x18x2, .f32⟩
  | 1 => ⟨S32x64x18x2, .f32⟩
  | 2 => ⟨S32x64x2, .f32⟩
  | 3 => ⟨S32x64x2, .f32⟩
  | 4 => ⟨S32x64x1, .f32⟩
  | 5 => ⟨S8x19x3x16x2, .f32⟩
  | 6 => ⟨S8x19x8, .f32⟩
  | 7 => ⟨S16x16x3x16x8, .f32⟩
  | 8 => ⟨S16x16x8, .f32⟩
  | 9 => ⟨S16x16x3x16x8, .f32⟩
  | 10 => ⟨S16x16x8, .f32⟩
  | 11 => ⟨S8, .f32⟩
  | 12 => ⟨S8, .f32⟩
  | 13 => ⟨S8, .f32⟩
  | 14 => ⟨S8x16, .i32⟩
  | 15 => ⟨S15, .f32⟩
  | 16 => ⟨S15, .f32⟩
  | 17 => ⟨S8x8, .i32⟩
  | 18 => ⟨S8x8, .i32⟩
  | 19 => ⟨S32x64x1x2, .f32⟩
  | 20 => ⟨S32x64x19x2, .f32⟩
  | 21 => ⟨S32x1x64x2, .f32⟩
  | 22 => ⟨S32x64x1x2, .f32⟩
  | 23 => ⟨S32x64x64x2, .f32⟩
  | 24 => ⟨S32x64x64x2, .f32⟩
  | 25 => ⟨S32x64x64x2, .f32⟩
  | 26 => ⟨S32x64x64x2, .f32⟩
  | 27 => ⟨S_, .f32⟩
  | 28 => ⟨S32x64x64, .f32⟩
  | 29 => ⟨S_, .f32⟩
  | 30 => ⟨S32x64x64, .f32⟩
  | 31 => ⟨S32x64x64, .f32⟩
  | 32 => ⟨S32x64x64, .f32⟩
  | 33 => ⟨S_, .f32⟩
  | 34 => ⟨S32x64x64, .f32⟩
  | 35 => ⟨S32x64x64, .f32⟩
  | 36 => ⟨S_, .f32⟩
  | 37 => ⟨S32x64x64, .f32⟩
  | 38 => ⟨S32x64x64, .i1⟩
  | 39 => ⟨S32x64x64x1, .f32⟩
  | 40 => ⟨S32x64x64, .f32⟩
  | 41 => ⟨S_, .f32⟩
  | 42 => ⟨S_, .f32⟩
  | 43 => ⟨S32x64x64, .f32⟩
  | 44 => ⟨S32x64x64, .f32⟩
  | 45 => ⟨S32x64x64x1, .f32⟩
  | 46 => ⟨S32x64x64, .f32⟩
  | 47 => ⟨S_, .f32⟩
  | 48 => ⟨S_, .f32⟩
  | 49 => ⟨S32x64x64, .f32⟩
  | 50 => ⟨S32x64x64, .f32⟩
  | 51 => ⟨S32x64x64, .f32⟩
  | 52 => ⟨S_, .f32⟩
  | 53 => ⟨S_, .f32⟩
  | 54 => ⟨S32x64x64, .f32⟩
  | 55 => ⟨S32x64x64, .f32⟩
  | 56 => ⟨S_, .f32⟩
  | 57 => ⟨S32x64x64, .f32⟩
  | 58 => ⟨S32x64x64, .i1⟩
  | 59 => ⟨S_, .f32⟩
  | 60 => ⟨S32x64x64, .f32⟩
  | 61 => ⟨S32x64x64, .i1⟩
  | 62 => ⟨S_, .f32⟩
  | 63 => ⟨S_, .i1⟩
  | 64 => ⟨S32x64x64, .i1⟩
  | 65 => ⟨S32x64x64, .i1⟩
  | 66 => ⟨S32x64x64, .i1⟩
  | 67 => ⟨S32x64x64, .f32⟩
  | 68 => ⟨S32x64x64, .f32⟩
  | 69 => ⟨S32x64x64, .f32⟩
  | 70 => ⟨S32x64x64, .f32⟩
  | 71 => ⟨S_, .f32⟩
  | 72 => ⟨S32x64x64, .f32⟩
  | 73 => ⟨S32x64x64, .f32⟩
  | 74 => ⟨S_, .f32⟩
  | 75 => ⟨S_, .f32⟩
  | 76 => ⟨S32x64x64, .f32⟩
  | 77 => ⟨S32x64x64, .f32⟩
  | 78 => ⟨S32x64x64, .f32⟩
  | 79 => ⟨S32x64x64, .f32⟩
  | 80 => ⟨S_, .f32⟩
  | 81 => ⟨S_, .f32⟩
  | 82 => ⟨S_, .f32⟩
  | 83 => ⟨S32x64x64, .f32⟩
  | 84 => ⟨S32x64x64, .f32⟩
  | 85 => ⟨S_, .f32⟩
  | 86 => ⟨S32x64x64, .f32⟩
  | 87 => ⟨S32x64x64, .f32⟩
  | 88 => ⟨S_, .f32⟩
  | 89 => ⟨S32x64x64, .f32⟩
  | 90 => ⟨S32x64x64, .f32⟩
  | 91 => ⟨S32x64x64, .f32⟩
  | 92 => ⟨S_, .i32⟩
  | 93 => ⟨S_, .i32⟩
  | 94 => ⟨S_, .f32⟩
  | 95 => ⟨S32x64x64, .f32⟩
  | 96 => ⟨S32x64x64, .f32⟩
  | 97 => ⟨S_, .f32⟩
  | 98 => ⟨S32x64x64, .f32⟩
  | 99 => ⟨S32x64x64, .f32⟩
  | 100 => ⟨S32x64x64, .f32⟩
  | 101 => ⟨S_, .f32⟩
  | 102 => ⟨S_, .f32⟩
  | 103 => ⟨S_, .f32⟩
  | 104 => ⟨S32x64x64, .f32⟩
  | 105 => ⟨S32x64x64, .f32⟩
  | 106 => ⟨S_, .f32⟩
  | 107 => ⟨S32x64x64, .f32⟩
  | 108 => ⟨S32x64x64, .f32⟩
  | 109 => ⟨S32x64x64, .i32⟩
  | 110 => ⟨S32x64x64x1, .i32⟩
  | 111 => ⟨S1x1x1x3, .i32⟩
  | 112 => ⟨S32x64x64x3, .i32⟩
  | 113 => ⟨S32x64x64x3, .i32⟩
  | 114 => ⟨S32x64x64x3, .i1⟩
  | 115 => ⟨S32x64x64x3, .f32⟩
  | 116 => ⟨S_, .f32⟩
  | 117 => ⟨S32x64x64, .f32⟩
  | 118 => ⟨S32x64x64, .f32⟩
  | 119 => ⟨S32x64x64x1, .f32⟩
  | 120 => ⟨S32x64x64x3, .f32⟩
  | 121 => ⟨S32x64x64x3, .f32⟩
  | 122 => ⟨S_, .i32⟩
  | 123 => ⟨S32x64x64, .i32⟩
  | 124 => ⟨S32x64x64, .i32⟩
  | 125 => ⟨S32x64x64x1, .i32⟩
  | 126 => ⟨S1x1x1x3, .i32⟩
  | 127 => ⟨S32x64x64x3, .i32⟩
  | _ => ⟨S32x64x18x2, .f32⟩

abbrev hbmTy0_1 (i : Nat) : BufTy := match i % 128 with
  | 0 => ⟨S32x64x64x3, .i32⟩
  | 1 => ⟨S32x64x64x3, .i1⟩
  | 2 => ⟨S32x64x64x3, .f32⟩
  | 3 => ⟨S32x64x64x1, .f32⟩
  | 4 => ⟨S32x64x64x3, .f32⟩
  | 5 => ⟨S32x64x64x3, .f32⟩
  | 6 => ⟨S32x64x64x3, .f32⟩
  | 7 => ⟨S_, .f32⟩
  | 8 => ⟨S32x64x64, .f32⟩
  | 9 => ⟨S32x64x64, .f32⟩
  | 10 => ⟨S_, .f32⟩
  | 11 => ⟨S32x64x64, .f32⟩
  | 12 => ⟨S32x64x64, .f32⟩
  | 13 => ⟨S32x64x64, .f32⟩
  | 14 => ⟨S32x64x64, .f32⟩
  | 15 => ⟨S32x64x64, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S32x64x64, .i32⟩
  | 23 => ⟨S32x64x64, .i32⟩
  | 24 => ⟨S_, .i32⟩
  | 25 => ⟨S32x64x64, .i32⟩
  | 26 => ⟨S32x64x64, .i1⟩
  | 27 => ⟨S_, .i32⟩
  | 28 => ⟨S32x64x64, .i32⟩
  | 29 => ⟨S32x64x64, .i1⟩
  | 30 => ⟨S_, .i32⟩
  | 31 => ⟨S_, .i1⟩
  | 32 => ⟨S32x64x64, .i1⟩
  | 33 => ⟨S32x64x64, .i1⟩
  | 34 => ⟨S32x64x64, .i1⟩
  | 35 => ⟨S32x64x64, .i32⟩
  | 36 => ⟨S32x64x64, .i32⟩
  | 37 => ⟨S32x64x64, .i32⟩
  | 38 => ⟨S32x64x64x1, .i32⟩
  | 39 => ⟨S1x1x1x16, .i32⟩
  | 40 => ⟨S32x64x64x16, .i32⟩
  | 41 => ⟨S32x64x64x16, .i32⟩
  | 42 => ⟨S32x64x64x16, .i1⟩
  | 43 => ⟨S32x64x64x16, .f32⟩
  | 44 => ⟨S_, .f32⟩
  | 45 => ⟨S32x64x64, .f32⟩
  | 46 => ⟨S32x64x64, .f32⟩
  | 47 => ⟨S32x64x64x1, .f32⟩
  | 48 => ⟨S32x64x64x16, .f32⟩
  | 49 => ⟨S32x64x64x16, .f32⟩
  | 50 => ⟨S_, .i32⟩
  | 51 => ⟨S32x64x64, .i32⟩
  | 52 => ⟨S32x64x64, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S32x64x64, .i32⟩
  | 60 => ⟨S32x64x64, .i32⟩
  | 61 => ⟨S_, .i32⟩
  | 62 => ⟨S32x64x64, .i32⟩
  | 63 => ⟨S32x64x64, .i1⟩
  | 64 => ⟨S_, .i32⟩
  | 65 => ⟨S32x64x64, .i32⟩
  | 66 => ⟨S32x64x64, .i1⟩
  | 67 => ⟨S_, .i32⟩
  | 68 => ⟨S_, .i1⟩
  | 69 => ⟨S32x64x64, .i1⟩
  | 70 => ⟨S32x64x64, .i1⟩
  | 71 => ⟨S32x64x64, .i1⟩
  | 72 => ⟨S32x64x64, .i32⟩
  | 73 => ⟨S32x64x64, .i32⟩
  | 74 => ⟨S32x64x64, .i32⟩
  | 75 => ⟨S32x64x64x1, .i32⟩
  | 76 => ⟨S1x1x1x16, .i32⟩
  | 77 => ⟨S32x64x64x16, .i32⟩
  | 78 => ⟨S32x64x64x16, .i32⟩
  | 79 => ⟨S32x64x64x16, .i1⟩
  | 80 => ⟨S32x64x64x16, .f32⟩
  | 81 => ⟨S32x64x64x1, .f32⟩
  | 82 => ⟨S32x64x64x16, .f32⟩
  | 83 => ⟨S32x64x64x16, .f32⟩
  | 84 => ⟨S32x64x64x16, .f32⟩
  | 85 => ⟨S32x64x64x3x1, .f32⟩
  | 86 => ⟨S32x64x64x1x16, .f32⟩
  | 87 => ⟨S32x64x64x3x16, .f32⟩
  | 88 => ⟨S32x64x64x3x16, .f32⟩
  | 89 => ⟨S32x64x64x3x16, .f32⟩
  | 90 => ⟨S32x64, .f32⟩
  | 91 => ⟨S32x1x64, .f32⟩
  | 92 => ⟨S32x64x64, .f32⟩
  | 93 => ⟨S32x64x64, .f32⟩
  | 94 => ⟨S32x64x64x1x1, .f32⟩
  | 95 => ⟨S32x64x64x3x16, .f32⟩
  | 96 => ⟨S32x64x64x3x16, .f32⟩
  | 97 => ⟨S_, .f32⟩
  | 98 => ⟨S32x64, .f32⟩
  | 99 => ⟨S32x64x19x1, .f32⟩
  | 100 => ⟨S32x64x19x1, .f32⟩
  | 101 => ⟨S1x1x1x8, .f32⟩
  | 102 => ⟨S32x64x19x8, .f32⟩
  | 103 => ⟨S32x64x19x8, .f32⟩
  | 104 => ⟨S32x64x19x8, .f32⟩
  | 105 => ⟨S1x1x1x8, .f32⟩
  | 106 => ⟨S32x64x19x8, .f32⟩
  | 107 => ⟨S32x64x19x8, .f32⟩
  | 108 => ⟨S32x64x19x8, .f32⟩
  | 109 => ⟨S32x64x19x8, .f32⟩
  | 110 => ⟨S1x1x1x8, .f32⟩
  | 111 => ⟨S32x64x19x8, .f32⟩
  | 112 => ⟨S32x64x19x8, .f32⟩
  | 113 => ⟨S32x64x19x8, .f32⟩
  | 114 => ⟨S1x1x1x8, .f32⟩
  | 115 => ⟨S32x64x19x8, .f32⟩
  | 116 => ⟨S32x64x19x8, .f32⟩
  | 117 => ⟨S32x64x19x8, .f32⟩
  | 118 => ⟨S32x64x19x8, .f32⟩
  | 119 => ⟨S32x64x19x8x1, .f32⟩
  | 120 => ⟨S32x64x19x8x1, .f32⟩
  | 121 => ⟨S32x64x19x8x2, .f32⟩
  | 122 => ⟨S32x64x8x8x3x16, .f32⟩
  | 123 => ⟨S32x64x8x8x3x16, .f32⟩
  | 124 => ⟨S8x16x1, .i32⟩
  | 125 => ⟨S32x64x64x3x8x16, .f32⟩
  | 126 => ⟨S32x8x8x64, .f32⟩
  | 127 => ⟨S32x64x8x8, .f32⟩
  | _ => ⟨S32x64x18x2, .f32⟩

abbrev hbmTy0_2 (i : Nat) : BufTy := match i % 128 with
  | 0 => ⟨S32x64x1x1, .f32⟩
  | 1 => ⟨S_, .f32⟩
  | 2 => ⟨S32x64x1x1, .f32⟩
  | 3 => ⟨S32x64x1x1, .f32⟩
  | 4 => ⟨S32x64x8x8, .f32⟩
  | 5 => ⟨S32x64x8x8, .f32⟩
  | 6 => ⟨S32x64x19x1, .f32⟩
  | 7 => ⟨S1x1x1x15, .f32⟩
  | 8 => ⟨S32x64x19x15, .f32⟩
  | 9 => ⟨S32x64x19x15, .f32⟩
  | 10 => ⟨S32x64x19x15, .f32⟩
  | 11 => ⟨S32x64x19x1, .f32⟩
  | 12 => ⟨S1x1x1x15, .f32⟩
  | 13 => ⟨S32x64x19x15, .f32⟩
  | 14 => ⟨S32x64x19x15, .f32⟩
  | 15 => ⟨S32x64x19x15, .f32⟩
  | 16 => ⟨S32x64x19x15, .f32⟩
  | 17 => ⟨S8x8x1, .i32⟩
  | 18 => ⟨S32x64x19x8x8, .f32⟩
  | 19 => ⟨S32x64x8x8, .f32⟩
  | 20 => ⟨S32x64x8x8, .f32⟩
  | 21 => ⟨S32x64x16x8, .f32⟩
  | 22 => ⟨S_, .f32⟩
  | 23 => ⟨S32x64x16x8, .f32⟩
  | 24 => ⟨S32x64x16x8, .f32⟩
  | 25 => ⟨S8x8x1, .i32⟩
  | 26 => ⟨S32x64x16x8x8, .f32⟩
  | 27 => ⟨S32x64x8x16x3x16, .f32⟩
  | 28 => ⟨S32x64x16x8x3x16, .f32⟩
  | 29 => ⟨S8x16x1, .i32⟩
  | 30 => ⟨S32x64x64x3x8x16, .f32⟩
  | 31 => ⟨S32x8x16x64, .f32⟩
  | 32 => ⟨S32x64x16x8, .f32⟩
  | 33 => ⟨S32x64x1x1, .f32⟩
  | 34 => ⟨S_, .f32⟩
  | 35 => ⟨S32x64x1x1, .f32⟩
  | 36 => ⟨S32x64x1x1, .f32⟩
  | 37 => ⟨S32x64x16x8, .f32⟩
  | 38 => ⟨S32x64x16x8, .f32⟩
  | 39 => ⟨S32x64x8x16, .f32⟩
  | 40 => ⟨S32x64x16x8, .f32⟩
  | 41 => ⟨S32x64x16x8, .f32⟩
  | 42 => ⟨S32x64x16x8, .f32⟩
  | 43 => ⟨S_, .f32⟩
  | 44 => ⟨S32x64x16x8, .f32⟩
  | 45 => ⟨S32x64x16x8, .f32⟩
  | 46 => ⟨S8x8x1, .i32⟩
  | 47 => ⟨S32x64x16x8x8, .f32⟩
  | 48 => ⟨S32x64x8x16x3x16, .f32⟩
  | 49 => ⟨S32x64x16x8x3x16, .f32⟩
  | 50 => ⟨S8x16x1, .i32⟩
  | 51 => ⟨S32x64x64x3x8x16, .f32⟩
  | 52 => ⟨S32x8x16x64, .f32⟩
  | 53 => ⟨S32x64x16x8, .f32⟩
  | 54 => ⟨S32x64x1x1, .f32⟩
  | 55 => ⟨S_, .f32⟩
  | 56 => ⟨S32x64x1x1, .f32⟩
  | 57 => ⟨S32x64x1x1, .f32⟩
  | 58 => ⟨S32x64x16x8, .f32⟩
  | 59 => ⟨S32x64x16x8, .f32⟩
  | 60 => ⟨S32x64x8x16, .f32⟩
  | 61 => ⟨S32x64x16x8, .f32⟩
  | 62 => ⟨S32x64x16x8, .f32⟩
  | 63 => ⟨S32x64x16x8, .f32⟩
  | 64 => ⟨S_, .f32⟩
  | 65 => ⟨S32x64x16x8, .f32⟩
  | 66 => ⟨S32x64x16x8, .f32⟩
  | 67 => ⟨S32x64x128, .f32⟩
  | _ => ⟨S32x64x18x2, .f32⟩

abbrev hbmTy (i : Nat) : BufTy := match i / 128 with
  | 0 => hbmTy0_0 i
  | 1 => hbmTy0_1 i
  | 2 => hbmTy0_2 i
  | _ => ⟨S32x64x18x2, .f32⟩

abbrev bufTy : (tb : Table) → Fin (tcTables nBuf tb) → BufTy
  | .hbm, ⟨i, _⟩ => hbmTy i
  | _, _ => ⟨S32x64x18x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_c : Ref sig .tc := ⟨.hbm, 14, rfl⟩
abbrev main_cst_2 : Ref sig .tc := ⟨.hbm, 15, rfl⟩
abbrev main_cst_3 : Ref sig .tc := ⟨.hbm, 16, rfl⟩
abbrev main_c_4 : Ref sig .tc := ⟨.hbm, 17, rfl⟩
abbrev main_c_5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_6 : Ref sig .tc := ⟨.hbm, 27, rfl⟩
abbrev main_v8 : Ref sig .tc := ⟨.hbm, 28, rfl⟩
abbrev main_cst_7 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_8 : Ref sig .tc := ⟨.hbm, 33, rfl⟩
abbrev main_v12 : Ref sig .tc := ⟨.hbm, 34, rfl⟩
abbrev main_v13 : Ref sig .tc := ⟨.hbm, 35, rfl⟩
abbrev main_cst_9 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_10 : Ref sig .tc := ⟨.hbm, 41, rfl⟩
abbrev main_call0_v0 : Ref sig .tc := ⟨.hbm, 42, rfl⟩
abbrev main_call0_v1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_11 : Ref sig .tc := ⟨.hbm, 47, rfl⟩
abbrev main_call1_v0 : Ref sig .tc := ⟨.hbm, 48, rfl⟩
abbrev main_call1_v1 : Ref sig .tc := ⟨.hbm, 49, rfl⟩
abbrev main_v21 : Ref sig .tc := ⟨.hbm, 50, rfl⟩
abbrev main_v22 : Ref sig .tc := ⟨.hbm, 51, rfl⟩
abbrev main_cst_12 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_cst : Ref sig .tc := ⟨.hbm, 56, rfl⟩
abbrev main_call2_v3 : Ref sig .tc := ⟨.hbm, 57, rfl⟩
abbrev main_call2_v4 : Ref sig .tc := ⟨.hbm, 58, rfl⟩
abbrev main_call2_cst_0 : Ref sig .tc := ⟨.hbm, 59, rfl⟩
abbrev main_call2_v5 : Ref sig .tc := ⟨.hbm, 60, rfl⟩
abbrev main_call2_v6 : Ref sig .tc := ⟨.hbm, 61, rfl⟩
abbrev main_call2_cst_1 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_v23 : Ref sig .tc := ⟨.hbm, 69, rfl⟩
abbrev main_v24 : Ref sig .tc := ⟨.hbm, 70, rfl⟩
abbrev main_cst_13 : Ref sig .tc := ⟨.hbm, 71, rfl⟩
abbrev main_v25 : Ref sig .tc := ⟨.hbm, 72, rfl⟩
abbrev main_v26 : Ref sig .tc := ⟨.hbm, 73, rfl⟩
abbrev main_cst_14 : Ref sig .tc := ⟨.hbm, 74, rfl⟩
abbrev main_call3_v0 : Ref sig .tc := ⟨.hbm, 75, rfl⟩
abbrev main_call3_v1 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_cst_15 : Ref sig .tc := ⟨.hbm, 80, rfl⟩
abbrev main_cst_16 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_v30 : Ref sig .tc := ⟨.hbm, 87, rfl⟩
abbrev main_cst_17 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_c_18 : Ref sig .tc := ⟨.hbm, 92, rfl⟩
abbrev main_c_19 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v34 : Ref sig .tc := ⟨.hbm, 99, rfl⟩
abbrev main_v35 : Ref sig .tc := ⟨.hbm, 100, rfl⟩
abbrev main_cst_20 : Ref sig .tc := ⟨.hbm, 101, rfl⟩
abbrev main_cst_21 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_v36 : Ref sig .tc := ⟨.hbm, 108, rfl⟩
abbrev main_v37 : Ref sig .tc := ⟨.hbm, 109, rfl⟩
abbrev main_call7_v0 : Ref sig .tc := ⟨.hbm, 110, rfl⟩
abbrev main_call7_v1 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_v38 : Ref sig .tc := ⟨.hbm, 115, rfl⟩
abbrev main_cst_22 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_c_23 : Ref sig .tc := ⟨.hbm, 122, rfl⟩
abbrev main_v44 : Ref sig .tc := ⟨.hbm, 123, rfl⟩
abbrev main_v45 : Ref sig .tc := ⟨.hbm, 124, rfl⟩
abbrev main_call8_v0 : Ref sig .tc := ⟨.hbm, 125, rfl⟩
abbrev main_call8_v1 : Ref sig .tc := ⟨.hbm, 126, rfl⟩
abbrev main_call8_v2 : Ref sig .tc := ⟨.hbm, 127, rfl⟩
abbrev main_call8_v3 : Ref sig .tc := ⟨.hbm, 128, rfl⟩
abbrev main_call8_v4 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_cst_24 : Ref sig .tc := ⟨.hbm, 135, rfl⟩
abbrev main_v51 : Ref sig .tc := ⟨.hbm, 136, rfl⟩
abbrev main_v52 : Ref sig .tc := ⟨.hbm, 137, rfl⟩
abbrev main_cst_25 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_c_26 : Ref sig .tc := ⟨.hbm, 144, rfl⟩
abbrev main_call9_v0 : Ref sig .tc := ⟨.hbm, 145, rfl⟩
abbrev main_call9_c : Ref sig .tc := ⟨.hbm, 146, rfl⟩
abbrev main_call9_v1 : Ref sig .tc := ⟨.hbm, 147, rfl⟩
abbrev main_call9_c_0 : Ref sig .tc := ⟨.hbm, 148, rfl⟩
abbrev main_call9_v2 : Ref sig .tc := ⟨.hbm, 149, rfl⟩
abbrev main_call9_v3 : Ref sig .tc := ⟨.hbm, 150, rfl⟩
abbrev main_call9_v4 : Ref sig .tc := ⟨.hbm, 151, rfl⟩
abbrev main_call9_c_1 : Ref sig .tc := ⟨.hbm, 152, rfl⟩
abbrev main_call9_v5 : Ref sig .tc := ⟨.hbm, 153, rfl⟩
abbrev main_call9_v6 : Ref sig .tc := ⟨.hbm, 154, rfl⟩
abbrev main_call9_c_2 : Ref sig .tc := ⟨.hbm, 155, rfl⟩
abbrev main_call9_v7 : Ref sig .tc := ⟨.hbm, 156, rfl⟩
abbrev main_call9_v8 : Ref sig .tc := ⟨.hbm, 157, rfl⟩
abbrev main_call9_c_3 : Ref sig .tc := ⟨.hbm, 158, rfl⟩
abbrev main_call9_v9 : Ref sig .tc := ⟨.hbm, 159, rfl⟩
abbrev main_call9_v10 : Ref sig .tc := ⟨.hbm, 160, rfl⟩
abbrev main_call9_v11 : Ref sig .tc := ⟨.hbm, 161, rfl⟩
abbrev main_call9_v12 : Ref sig .tc := ⟨.hbm, 162, rfl⟩
abbrev main_call9_v13 : Ref sig .tc := ⟨.hbm, 163, rfl⟩
abbrev main_call9_v14 : Ref sig .tc := ⟨.hbm, 164, rfl⟩
abbrev main_v58 : Ref sig .tc := ⟨.hbm, 165, rfl⟩
abbrev main_call10_v0 : Ref sig .tc := ⟨.hbm, 166, rfl⟩
abbrev main_call10_v1 : Ref sig .tc := ⟨.hbm, 167, rfl⟩
abbrev main_call10_v2 : Ref sig .tc := ⟨.hbm, 168, rfl⟩
abbrev main_call10_v3 : Ref sig .tc := ⟨.hbm, 169, rfl⟩
abbrev main_call10_v4 : Ref sig .tc := ⟨.hbm, 170, rfl⟩
abbrev main_v59 : Ref sig .tc := ⟨.hbm, 171, rfl⟩
abbrev main_cst_27 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_c_28 : Ref sig .tc := ⟨.hbm, 178, rfl⟩
abbrev main_v65 : Ref sig .tc := ⟨.hbm, 179, rfl⟩
abbrev main_v66 : Ref sig .tc := ⟨.hbm, 180, rfl⟩
abbrev main_c_29 : Ref sig .tc := ⟨.hbm, 181, rfl⟩
abbrev main_call11_v0 : Ref sig .tc := ⟨.hbm, 182, rfl⟩
abbrev main_call11_c : Ref sig .tc := ⟨.hbm, 183, rfl⟩
abbrev main_call11_v1 : Ref sig .tc := ⟨.hbm, 184, rfl⟩
abbrev main_call11_c_0 : Ref sig .tc := ⟨.hbm, 185, rfl⟩
abbrev main_call11_v2 : Ref sig .tc := ⟨.hbm, 186, rfl⟩
abbrev main_call11_v3 : Ref sig .tc := ⟨.hbm, 187, rfl⟩
abbrev main_call11_v4 : Ref sig .tc := ⟨.hbm, 188, rfl⟩
abbrev main_call11_c_1 : Ref sig .tc := ⟨.hbm, 189, rfl⟩
abbrev main_call11_v5 : Ref sig .tc := ⟨.hbm, 190, rfl⟩
abbrev main_call11_v6 : Ref sig .tc := ⟨.hbm, 191, rfl⟩
abbrev main_call11_c_2 : Ref sig .tc := ⟨.hbm, 192, rfl⟩
abbrev main_call11_v7 : Ref sig .tc := ⟨.hbm, 193, rfl⟩
abbrev main_call11_v8 : Ref sig .tc := ⟨.hbm, 194, rfl⟩
abbrev main_call11_c_3 : Ref sig .tc := ⟨.hbm, 195, rfl⟩
abbrev main_call11_v9 : Ref sig .tc := ⟨.hbm, 196, rfl⟩
abbrev main_call11_v10 : Ref sig .tc := ⟨.hbm, 197, rfl⟩
abbrev main_call11_v11 : Ref sig .tc := ⟨.hbm, 198, rfl⟩
abbrev main_call11_v12 : Ref sig .tc := ⟨.hbm, 199, rfl⟩
abbrev main_call11_v13 : Ref sig .tc := ⟨.hbm, 200, rfl⟩
abbrev main_call11_v14 : Ref sig .tc := ⟨.hbm, 201, rfl⟩
abbrev main_v67 : Ref sig .tc := ⟨.hbm, 202, rfl⟩
abbrev main_call12_v0 : Ref sig .tc := ⟨.hbm, 203, rfl⟩
abbrev main_call12_v1 : Ref sig .tc := ⟨.hbm, 204, rfl⟩
abbrev main_call12_v2 : Ref sig .tc := ⟨.hbm, 205, rfl⟩
abbrev main_call12_v3 : Ref sig .tc := ⟨.hbm, 206, rfl⟩
abbrev main_call12_v4 : Ref sig .tc := ⟨.hbm, 207, rfl⟩
abbrev main_v68 : Ref sig .tc := ⟨.hbm, 208, rfl⟩
abbrev main_v69 : Ref sig .tc := ⟨.hbm, 209, rfl⟩
abbrev main_v70 : Ref sig .tc := ⟨.hbm, 210, rfl⟩
abbrev main_v71 : Ref sig .tc := ⟨.hbm, 211, rfl⟩
abbrev main_v72 : Ref sig .tc := ⟨.hbm, 212, rfl⟩
abbrev main_v73 : Ref sig .tc := ⟨.hbm, 213, rfl⟩
abbrev main_v74 : Ref sig .tc := ⟨.hbm, 214, rfl⟩
abbrev main_v75 : Ref sig .tc := ⟨.hbm, 215, rfl⟩
abbrev main_v76 : Ref sig .tc := ⟨.hbm, 216, rfl⟩
abbrev main_v77 : Ref sig .tc := ⟨.hbm, 217, rfl⟩
abbrev main_v78 : Ref sig .tc := ⟨.hbm, 218, rfl⟩
abbrev main_v79 : Ref sig .tc := ⟨.hbm, 219, rfl⟩
abbrev main_v80 : Ref sig .tc := ⟨.hbm, 220, rfl⟩
abbrev main_v81 : Ref sig .tc := ⟨.hbm, 221, rfl⟩
abbrev main_v82 : Ref sig .tc := ⟨.hbm, 222, rfl⟩
abbrev main_v83 : Ref sig .tc := ⟨.hbm, 223, rfl⟩
abbrev main_v84 : Ref sig .tc := ⟨.hbm, 224, rfl⟩
abbrev main_cst_30 : Ref sig .tc := ⟨.hbm, 225, rfl⟩
abbrev main_v85 : Ref sig .tc := ⟨.hbm, 226, rfl⟩
abbrev main_v86 : Ref sig .tc := ⟨.hbm, 227, rfl⟩
abbrev main_v87 : Ref sig .tc := ⟨.hbm, 228, rfl⟩
abbrev main_v88 : Ref sig .tc := ⟨.hbm, 229, rfl⟩
abbrev main_v89 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_v94 : Ref sig .tc := ⟨.hbm, 235, rfl⟩
abbrev main_v95 : Ref sig .tc := ⟨.hbm, 236, rfl⟩
abbrev main_v96 : Ref sig .tc := ⟨.hbm, 237, rfl⟩
abbrev main_v97 : Ref sig .tc := ⟨.hbm, 238, rfl⟩
abbrev main_v98 : Ref sig .tc := ⟨.hbm, 239, rfl⟩
abbrev main_v99 : Ref sig .tc := ⟨.hbm, 240, rfl⟩
abbrev main_v100 : Ref sig .tc := ⟨.hbm, 241, rfl⟩
abbrev main_v101 : Ref sig .tc := ⟨.hbm, 242, rfl⟩
abbrev main_v102 : Ref sig .tc := ⟨.hbm, 243, rfl⟩
abbrev main_v103 : Ref sig .tc := ⟨.hbm, 244, rfl⟩
abbrev main_v104 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_v109 : Ref sig .tc := ⟨.hbm, 250, rfl⟩
abbrev main_v110 : Ref sig .tc := ⟨.hbm, 251, rfl⟩
abbrev main_call13_v0 : Ref sig .tc := ⟨.hbm, 252, rfl⟩
abbrev main_v111 : Ref sig .tc := ⟨.hbm, 253, rfl⟩
abbrev main_v112 : Ref sig .tc := ⟨.hbm, 254, rfl⟩
abbrev main_v113 : Ref sig .tc := ⟨.hbm, 255, rfl⟩
abbrev main_v114 : Ref sig .tc := ⟨.hbm, 256, rfl⟩
abbrev main_cst_31 : Ref sig .tc := ⟨.hbm, 257, rfl⟩
abbrev main_v115 : Ref sig .tc := ⟨.hbm, 258, rfl⟩
abbrev main_v116 : Ref sig .tc := ⟨.hbm, 259, rfl⟩
abbrev main_v117 : Ref sig .tc := ⟨.hbm, 260, rfl⟩
abbrev main_v118 : Ref sig .tc := ⟨.hbm, 261, rfl⟩
abbrev main_v119 : Ref sig .tc := ⟨.hbm, 262, rfl⟩
abbrev main_v120 : Ref sig .tc := ⟨.hbm, 263, rfl⟩
abbrev main_v121 : Ref sig .tc := ⟨.hbm, 264, rfl⟩
abbrev main_v122 : Ref sig .tc := ⟨.hbm, 265, rfl⟩
abbrev main_v123 : Ref sig .tc := ⟨.hbm, 266, rfl⟩
abbrev main_v124 : Ref sig .tc := ⟨.hbm, 267, rfl⟩
abbrev main_v125 : Ref sig .tc := ⟨.hbm, 268, rfl⟩
abbrev main_v126 : Ref sig .tc := ⟨.hbm, 269, rfl⟩
abbrev main_v127 : Ref sig .tc := ⟨.hbm, 270, rfl⟩
abbrev main_v128 : Ref sig .tc := ⟨.hbm, 271, rfl⟩
abbrev main_v129 : Ref sig .tc := ⟨.hbm, 272, rfl⟩
abbrev main_call14_v0 : Ref sig .tc := ⟨.hbm, 273, rfl⟩
abbrev main_v130 : Ref sig .tc := ⟨.hbm, 274, rfl⟩
abbrev main_v131 : Ref sig .tc := ⟨.hbm, 275, rfl⟩
abbrev main_v132 : Ref sig .tc := ⟨.hbm, 276, rfl⟩
abbrev main_v133 : Ref sig .tc := ⟨.hbm, 277, rfl⟩
abbrev main_cst_32 : Ref sig .tc := ⟨.hbm, 278, rfl⟩
abbrev main_v134 : Ref sig .tc := ⟨.hbm, 279, rfl⟩
abbrev main_v135 : Ref sig .tc := ⟨.hbm, 280, rfl⟩
abbrev main_call15_v0 : Ref sig .tc := ⟨.hbm, 281, rfl⟩
abbrev main_v136 : Ref sig .tc := ⟨.hbm, 282, rfl⟩
abbrev main_v137 : Ref sig .tc := ⟨.hbm, 283, rfl⟩
abbrev main_v138 : Ref sig .tc := ⟨.hbm, 284, rfl⟩
abbrev main_call16_v0 : Ref sig .tc := ⟨.hbm, 285, rfl⟩
abbrev main_v139 : Ref sig .tc := ⟨.hbm, 286, rfl⟩
abbrev main_v140 : Ref sig .tc := ⟨.hbm, 287, rfl⟩
abbrev main_v141 : Ref sig .tc := ⟨.hbm, 288, rfl⟩
abbrev main_v142 : Ref sig .tc := ⟨.hbm, 289, rfl⟩
abbrev main_cst_33 : Ref sig .tc := ⟨.hbm, 290, rfl⟩
abbrev main_v143 : Ref sig .tc := ⟨.hbm, 291, rfl⟩
abbrev main_v144 : Ref sig .tc := ⟨.hbm, 292, rfl⟩
abbrev main_v145 : Ref sig .tc := ⟨.hbm, 293, rfl⟩
abbrev main_v146 : Ref sig .tc := ⟨.hbm, 294, rfl⟩
abbrev main_v147 : Ref sig .tc := ⟨.hbm, 295, rfl⟩
abbrev main_v148 : Ref sig .tc := ⟨.hbm, 296, rfl⟩
abbrev main_v149 : Ref sig .tc := ⟨.hbm, 297, rfl⟩
abbrev main_v150 : Ref sig .tc := ⟨.hbm, 298, rfl⟩
abbrev main_cst_34 : Ref sig .tc := ⟨.hbm, 299, rfl⟩
abbrev main_v151 : Ref sig .tc := ⟨.hbm, 300, rfl⟩
abbrev main_v152 : Ref sig .tc := ⟨.hbm, 301, rfl⟩
abbrev main_call17_v0 : Ref sig .tc := ⟨.hbm, 302, rfl⟩
abbrev main_v153 : Ref sig .tc := ⟨.hbm, 303, rfl⟩
abbrev main_v154 : Ref sig .tc := ⟨.hbm, 304, rfl⟩
abbrev main_v155 : Ref sig .tc := ⟨.hbm, 305, rfl⟩
abbrev main_call18_v0 : Ref sig .tc := ⟨.hbm, 306, rfl⟩
abbrev main_v156 : Ref sig .tc := ⟨.hbm, 307, rfl⟩
abbrev main_v157 : Ref sig .tc := ⟨.hbm, 308, rfl⟩
abbrev main_v158 : Ref sig .tc := ⟨.hbm, 309, rfl⟩
abbrev main_v159 : Ref sig .tc := ⟨.hbm, 310, rfl⟩
abbrev main_cst_35 : Ref sig .tc := ⟨.hbm, 311, rfl⟩
abbrev main_v160 : Ref sig .tc := ⟨.hbm, 312, rfl⟩
abbrev main_v161 : Ref sig .tc := ⟨.hbm, 313, rfl⟩
abbrev main_v162 : Ref sig .tc := ⟨.hbm, 314, rfl⟩
abbrev main_v163 : Ref sig .tc := ⟨.hbm, 315, rfl⟩
abbrev main_v164 : Ref sig .tc := ⟨.hbm, 316, rfl⟩
abbrev main_v165 : Ref sig .tc := ⟨.hbm, 317, rfl⟩
abbrev main_v166 : Ref sig .tc := ⟨.hbm, 318, rfl⟩
abbrev main_v167 : Ref sig .tc := ⟨.hbm, 319, rfl⟩
abbrev main_cst_36 : Ref sig .tc := ⟨.hbm, 320, rfl⟩
abbrev main_v168 : Ref sig .tc := ⟨.hbm, 321, rfl⟩
abbrev main_v169 : Ref sig .tc := ⟨.hbm, 322, rfl⟩
abbrev main_v170 : Ref sig .tc := ⟨.hbm, 323, rfl⟩

abbrev nD : Nat := 1
abbrev τ : Topo := Topo.v7x

variable {F : FTy → Type} [FloatOps F]
-- ==== Proof.Step.lean ====
/-
  One step of the convolution's accumulation, and the sum of all forty-eight halves of the twenty-four steps.
  A step multiplies the plane of coefficients of two neighbouring directions, side by side in 128 columns, with two slices of the
  table Z, one upon the other in 128 rows: it adds two sums over the 64 neighbours.
-/
module

public import proofs.«01_k».proof.Defs
public import proofs.«01_k».proof.Proof.Gen.KernelIdeal.Frame
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Proof.Step

/-- The entry of a row at a column named by its number (zero outside the row). -/
def atCol {n : ℕ} (z : Fin n → EReal) (k : ℕ) : EReal := if h : k < n then z ⟨k, h⟩ else 0

theorem atCol_of_lt {n : ℕ} (z : Fin n → EReal) (k : ℕ) (h : k < n) : atCol z k = z ⟨k, h⟩ := dif_pos h

/-- The two halves of a step over a table of columns 64 wide. -/
theorem step64 (A T : FVec Ideal S64x128 .f32) (Z : FVec Ideal S64x3072 .bf16) (o o' : ℕ)
    (h : S64x3072.Slices ![0, o] S64x64) (h' : S64x3072.Slices ![0, o'] S64x64) (i c : Fin 64) :
    matmul dot_S64x128_S128x64_S64x64_1_0_0_1_n_n none (truncf .bf16 (mulf A T) bitsLt_bf16_f32)
      (concatenate S128x64 0 [⟨S64x64, extractStridedSlice S64x64 ![0, o] Z h⟩,
        ⟨S64x64, extractStridedSlice S64x64 ![0, o'] Z h'⟩] concatenates_S64x64_S64x64_S128x64_d0)
      (constant S64x64 .f32 0x00000000#32) (ix2 i c)
    = ∑ j : Fin 64, A (ix2 i ⟨j.val, by omega⟩) * T (ix2 i ⟨j.val, by omega⟩) * atCol (fun k => Z (ix2 j k)) (o + c.val)
      + ∑ j : Fin 64, A (ix2 i ⟨64 + j.val, by omega⟩) * T (ix2 i ⟨64 + j.val, by omega⟩) * atCol (fun k => Z (ix2 j k)) (o' + c.val) := by
  have e : o + c.val < 3072 := Nat.lt_of_lt_of_le (Nat.add_lt_add_left c.isLt o) (h.2 1)
  have e' : o' + c.val < 3072 := Nat.lt_of_lt_of_le (Nat.add_lt_add_left c.isLt o') (h'.2 1)
  simp only [atCol_of_lt _ _ e, atCol_of_lt _ _ e']
  pointwise

/-- The two halves of a step over a table of columns 128 wide. -/
theorem step128 (A T : FVec Ideal S64x128 .f32) (Z : FVec Ideal S64x6144 .bf16) (o o' : ℕ)
    (h : S64x6144.Slices ![0, o] S64x128) (h' : S64x6144.Slices ![0, o'] S64x128) (i : Fin 64) (c : Fin 128) :
    matmul dot_S64x128_S128x128_S64x128_1_0_0_1_n_n none (truncf .bf16 (mulf A T) bitsLt_bf16_f32)
      (concatenate S128x128 0 [⟨S64x128, extractStridedSlice S64x128 ![0, o] Z h⟩,
        ⟨S64x128, extractStridedSlice S64x128 ![0, o'] Z h'⟩] concatenates_S64x128_S64x128_S128x128_d0)
      (constant S64x128 .f32 0x00000000#32) (ix2 i c)
    = ∑ j : Fin 64, A (ix2 i ⟨j.val, by omega⟩) * T (ix2 i ⟨j.val, by omega⟩) * atCol (fun k => Z (ix2 j k)) (o + c.val)
      + ∑ j : Fin 64, A (ix2 i ⟨64 + j.val, by omega⟩) * T (ix2 i ⟨64 + j.val, by omega⟩) * atCol (fun k => Z (ix2 j k)) (o' + c.val) := by
  have e : o + c.val < 6144 := Nat.lt_of_lt_of_le (Nat.add_lt_add_left c.isLt o) (h.2 1)
  have e' : o' + c.val < 6144 := Nat.lt_of_lt_of_le (Nat.add_lt_add_left c.isLt o') (h'.2 1)
  simp only [atCol_of_lt _ _ e, atCol_of_lt _ _ e']
  pointwise

/-- The convolution's sum before its division: over the three radii, the sixteen directions and the 64 neighbours. `a` are the
    coefficients of the radii, `t` those of the directions, `z` is the table with `w` columns for each pair of a radius and a direction. -/
def convSum (a : Fin 3 → Fin 64 → EReal) (t : Fin 16 → Fin 64 → EReal) (z : Fin 64 → ℕ → EReal) (w c : ℕ) : EReal :=
  ∑ r : Fin 3, ∑ u : Fin 16, ∑ j : Fin 64, a r j * t u j * z j ((r.val * 16 + u.val) * w + c)

/-- A sum over three radii and sixteen directions, in the order in which the kernel adds its twenty-four steps. -/
theorem sum_steps (f : Fin 3 → Fin 16 → EReal) : ∑ r, ∑ u, f r u =
    0 + (f 0 0 + f 0 1) + (f 0 2 + f 0 3) + (f 0 4 + f 0 5) + (f 0 6 + f 0 7) + (f 0 8 + f 0 9) + (f 0 10 + f 0 11)
      + (f 0 12 + f 0 13) + (f 0 14 + f 0 15)
      + (f 1 0 + f 1 1) + (f 1 2 + f 1 3) + (f 1 4 + f 1 5) + (f 1 6 + f 1 7) + (f 1 8 + f 1 9) + (f 1 10 + f 1 11)
      + (f 1 12 + f 1 13) + (f 1 14 + f 1 15)
      + (f 2 0 + f 2 1) + (f 2 2 + f 2 3) + (f 2 4 + f 2 5) + (f 2 6 + f 2 7) + (f 2 8 + f 2 9) + (f 2 10 + f 2 11)
      + (f 2 12 + f 2 13) + (f 2 14 + f 2 15) := by
  have h16 : ∀ g : Fin 16 → EReal, ∑ u, g u = g 0 + g 1 + g 2 + g 3 + g 4 + g 5 + g 6 + g 7 + g 8 + g 9 + g 10 + g 11 + g 12
      + g 13 + g 14 + g 15 := fun g => by
    simp only [Fin.sum_univ_castSucc, Fin.sum_univ_zero, zero_add]; rfl
  rw [Fin.sum_univ_three]
  simp only [h16, add_assoc, zero_add]

end Cert.Proof.Step

end
-- ==== Proof.Layers.lean ====
/-
  What the three layers of the kernel compute for one scene, in terms of the planes of coefficients and the tables Z:
  each layer is the convolution's sum times the inverse of the norm, beside (layer 1) or plus (layers 2 and 3) a dense product.
-/
module

public import proofs.«01_k».proof.Proof.Step

@[expose] public section

set_option maxRecDepth 16384

noncomputable section

open Idealize.ShloMosaic Idealize.ShloMosaic.TcCoe Idealize.SL.Sem
open Cert.KernelIdeal Cert.KernelIdeal.Gen

namespace Cert.Proof.Step

/-- Row `i` of a plane: `f` in its first 64 columns, `g` in the others. -/
def Halves (A : FVec Ideal S64x128 .f32) (i : Fin 64) (f g : Fin 64 → EReal) : Prop :=
  (∀ j : Fin 64, A (ix2 i ⟨j.val, by omega⟩) = f j) ∧ ∀ j : Fin 64, A (ix2 i ⟨64 + j.val, by omega⟩) = g j

theorem addf_at {s : Shape} {φ : FTy} (x y : FVec Ideal s φ) (j : s.Idx) : addf x y j = x j + y j := by pointwise

theorem mulf_at {s : Shape} {φ : FTy} (x y : FVec Ideal s φ) (j : s.Idx) : mulf x y j = x j * y j := by pointwise

theorem max_at {s : Shape} {φ : FTy} (x y : FVec Ideal s φ) (j : s.Idx) : maximumf x y j = max (x j) (y j) := by pointwise

theorem zero_at {s : Shape} (j : s.Idx) : broadcast s (Scalar.ofBits (F := Ideal) .f32 0x00000000#32) j = (0 : EReal) := by pointwise

theorem column64_at (v : FVec Ideal S64x1 .f32) (i c : Fin 64) : broadcastTo S64x64 v broadcasts_S64x1_S64x64 (ix2 i c) = v (ix2 i 0) := by
  pointwise

theorem column128_at (v : FVec Ideal S64x1 .f32) (i : Fin 64) (c : Fin 128) :
    broadcastTo S64x128 v broadcasts_S64x1_S64x128 (ix2 i c) = v (ix2 i 0) := by
  pointwise

theorem beside_lo (u v : FVec Ideal S64x64 .f32) (i c : Fin 64) :
    concatenate S64x128 1 [⟨S64x64, u⟩, ⟨S64x64, v⟩] concatenates_S64x64_S64x64_S64x128_d1 (ix2 i ⟨c.val, by omega⟩) = u (ix2 i c) := by
  pointwise

theorem beside_hi (u v : FVec Ideal S64x64 .f32) (i c : Fin 64) :
    concatenate S64x128 1 [⟨S64x64, u⟩, ⟨S64x64, v⟩] concatenates_S64x64_S64x64_S64x128_d1 (ix2 i ⟨64 + c.val, by omega⟩) = v (ix2 i c) := by
  pointwise

section
variable (x0 : Vec Ideal S1x8x64 .f32) (x1 : Vec Ideal S1x64x8 .f32) (x2 : Vec Ideal S1x64x38 .f32) (x3 : Vec Ideal S38x3072 .bf16)
  (x4 : Vec Ideal S38x64 .bf16) (x5 : Vec Ideal S256x6144 .bf16) (x6 : Vec Ideal S256x128 .bf16)

/-- The eleven planes at row `i`: the coefficients `a` of the radii are doubled, those `t` of the directions are paired. -/
structure Planes (i : Fin 64) (a : Fin 3 → Fin 64 → EReal) (t : Fin 16 → Fin 64 → EReal) : Prop where
  a0 : Halves (k0_pay93 x0 x1 x2 x3 x4 x5 x6) i (a 0) (a 0)
  a1 : Halves (k0_pay94 x0 x1 x2 x3 x4 x5 x6) i (a 1) (a 1)
  a2 : Halves (k0_pay95 x0 x1 x2 x3 x4 x5 x6) i (a 2) (a 2)
  t0 : Halves (k0_pay96 x0 x1 x2 x3 x4 x5 x6) i (t 0) (t 1)
  t1 : Halves (k0_pay97 x0 x1 x2 x3 x4 x5 x6) i (t 2) (t 3)
  t2 : Halves (k0_pay98 x0 x1 x2 x3 x4 x5 x6) i (t 4) (t 5)
  t3 : Halves (k0_pay99 x0 x1 x2 x3 x4 x5 x6) i (t 6) (t 7)
  t4 : Halves (k0_pay100 x0 x1 x2 x3 x4 x5 x6) i (t 8) (t 9)
  t5 : Halves (k0_pay101 x0 x1 x2 x3 x4 x5 x6) i (t 10) (t 11)
  t6 : Halves (k0_pay102 x0 x1 x2 x3 x4 x5 x6) i (t 12) (t 13)
  t7 : Halves (k0_pay103 x0 x1 x2 x3 x4 x5 x6) i (t 14) (t 15)

/-- Layer 1, the columns of the convolution. -/
theorem layer1_conv (i c : Fin 64) (a : Fin 3 → Fin 64 → EReal) (t : Fin 16 → Fin 64 → EReal) (hp : Planes x0 x1 x2 x3 x4 x5 x6 i a t) :
    k0_pay109 x0 x1 x2 x3 x4 x5 x6 (ix2 i ⟨c.val, by omega⟩)
      = convSum a t (fun j => atCol (fun k => k0_pay104 x0 x1 x2 x3 x4 x5 x6 (ix2 j k))) 64 c.val
        * k0_pay84 x0 x1 x2 x3 x4 x5 x6 (ix2 i 0) := by
  obtain ⟨⟨a0, a0'⟩, ⟨a1, a1'⟩, ⟨a2, a2'⟩, ⟨t0, t0'⟩, ⟨t1, t1'⟩, ⟨t2, t2'⟩, ⟨t3, t3'⟩, ⟨t4, t4'⟩, ⟨t5, t5'⟩, ⟨t6, t6'⟩, ⟨t7, t7'⟩⟩ := hp
  unfold convSum
  rw [sum_steps]
  unfold k0_pay109 k0_pay108 k0_pay107 k0_pay106
  unfold k0_pay54 k0_pay53 k0_pay52 k0_pay51 k0_pay50 k0_pay49 k0_pay48 k0_pay47 k0_pay46
  unfold k0_pay104
  generalize k0_pay44 (View.ld x2 r0_5) (View.ld x3 r0_6) = Z
  generalize k0_pay93 x0 x1 x2 x3 x4 x5 x6 = A0 at *
  generalize k0_pay94 x0 x1 x2 x3 x4 x5 x6 = A1 at *
  generalize k0_pay95 x0 x1 x2 x3 x4 x5 x6 = A2 at *
  generalize k0_pay96 x0 x1 x2 x3 x4 x5 x6 = T0 at *
  generalize k0_pay97 x0 x1 x2 x3 x4 x5 x6 = T1 at *
  generalize k0_pay98 x0 x1 x2 x3 x4 x5 x6 = T2 at *
  generalize k0_pay99 x0 x1 x2 x3 x4 x5 x6 = T3 at *
  generalize k0_pay100 x0 x1 x2 x3 x4 x5 x6 = T4 at *
  generalize k0_pay101 x0 x1 x2 x3 x4 x5 x6 = T5 at *
  generalize k0_pay102 x0 x1 x2 x3 x4 x5 x6 = T6 at *
  generalize k0_pay103 x0 x1 x2 x3 x4 x5 x6 = T7 at *
  simp only [beside_lo, mulf_at, column64_at, addf_at, zero_at, step64, a0, a0', a1, a1', a2, a2', t0, t0', t1, t1', t2, t2', t3, t3',
    t4, t4', t5, t5', t6, t6', t7, t7', Fin.isValue, Fin.coe_ofNat_eq_mod, Nat.reduceMod, Nat.reduceMul, Nat.reduceAdd]

/-- Layer 1, the columns of the dense product. -/
theorem layer1_dense (i c : Fin 64) :
    k0_pay109 x0 x1 x2 x3 x4 x5 x6 (ix2 i ⟨64 + c.val, by omega⟩) = k0_pay105 x0 x1 x2 x3 x4 x5 x6 (ix2 i c) := by
  unfold k0_pay109 k0_pay54
  simp only [beside_hi]

/-- Layer 2. -/
def out2 : FVec Ideal S64x128 .f32 :=
  k0_pay68 (k0_pay84 x0 x1 x2 x3 x4 x5 x6) (k0_pay109 x0 x1 x2 x3 x4 x5 x6) (k0_pay111 x0 x1 x2 x3 x4 x5 x6) (k0_pay112 x0 x1 x2 x3 x4 x5 x6) (k0_pay113 x0 x1 x2 x3 x4 x5 x6) (k0_pay114 x0 x1 x2 x3 x4 x5 x6)

/-- The dense product of layer 3. -/
def dense3 : FVec Ideal S64x128 .f32 :=
  k0_pay71 (k0_pay84 x0 x1 x2 x3 x4 x5 x6) (k0_pay109 x0 x1 x2 x3 x4 x5 x6) (k0_pay111 x0 x1 x2 x3 x4 x5 x6) (k0_pay112 x0 x1 x2 x3 x4 x5 x6) (k0_pay113 x0 x1 x2 x3 x4 x5 x6) (k0_pay114 x0 x1 x2 x3 x4 x5 x6) (View.ld x6 r0_11)

/-- Layer 3, with the last maximum with zero: what the kernel stores. -/
def out3 : FVec Ideal S64x128 .f32 :=
  k0_pay79 (k0_pay84 x0 x1 x2 x3 x4 x5 x6) (k0_pay95 x0 x1 x2 x3 x4 x5 x6) (k0_pay100 x0 x1 x2 x3 x4 x5 x6) (k0_pay101 x0 x1 x2 x3 x4 x5 x6) (k0_pay102 x0 x1 x2 x3 x4 x5 x6) (k0_pay103 x0 x1 x2 x3 x4 x5 x6) (out2 x0 x1 x2 x3 x4 x5 x6) (k0_pay115 x0 x1 x2 x3 x4 x5 x6) (dense3 x0 x1 x2 x3 x4 x5 x6) (k0_pay77 (k0_pay94 x0 x1 x2 x3 x4 x5 x6) (k0_pay95 x0 x1 x2 x3 x4 x5 x6) (k0_pay96 x0 x1 x2 x3 x4 x5 x6) (k0_pay97 x0 x1 x2 x3 x4 x5 x6) (k0_pay98 x0 x1 x2 x3 x4 x5 x6) (k0_pay100 x0 x1 x2 x3 x4 x5 x6) (k0_pay101 x0 x1 x2 x3 x4 x5 x6) (k0_pay102 x0 x1 x2 x3 x4 x5 x6) (k0_pay103 x0 x1 x2 x3 x4 x5 x6) (k0_pay115 x0 x1 x2 x3 x4 x5 x6) (k0_pay74 (k0_pay93 x0 x1 x2 x3 x4 x5 x6) (k0_pay94 x0 x1 x2 x3 x4 x5 x6) (k0_pay96 x0 x1 x2 x3 x4 x5 x6) (k0_pay97 x0 x1 x2 x3 x4 x5 x6) (k0_pay98 x0 x1 x2 x3 x4 x5 x6) (k0_pay101 x0 x1 x2 x3 x4 x5 x6) (k0_pay102 x0 x1 x2 x3 x4 x5 x6) (k0_pay103 x0 x1 x2 x3 x4 x5 x6) (k0_pay115 x0 x1 x2 x3 x4 x5 x6) (k0_pay72 (k0_pay84 x0 x1 x2 x3 x4 x5 x6) (k0_pay93 x0 x1 x2 x3 x4 x5 x6) (k0_pay96 x0 x1 x2 x3 x4 x5 x6) (k0_pay97 x0 x1 x2 x3 x4 x5 x6) (k0_pay98 x0 x1 x2 x3 x4 x5 x6) (k0_pay99 x0 x1 x2 x3 x4 x5 x6) (k0_pay109 x0 x1 x2 x3 x4 x5 x6) (k0_pay111 x0 x1 x2 x3 x4 x5 x6) (k0_pay112 x0 x1 x2 x3 x4 x5 x6) (k0_pay113 x0 x1 x2 x3 x4 x5 x6) (k0_pay114 x0 x1 x2 x3 x4 x5 x6) (View.ld x5 r0_10)) (k0_pay73 (k0_pay93 x0 x1 x2 x3 x4 x5 x6) (k0_pay100 x0 x1 x2 x3 x4 x5 x6))) (k0_pay75 (k0_pay94 x0 x1 x2 x3 x4 x5 x6) (k0_pay99 x0 x1 x2 x3 x4 x5 x6)) (k0_pay76 (k0_pay115 x0 x1 x2 x3 x4 x5 x6)) (constant S64x128 .f32 0x00000000#32)) (k0_pay78 (k0_pay95 x0 x1 x2 x3 x4 x5 x6) (k0_pay99 x0 x1 x2 x3 x4 x5 x6))

/-- Layer 2 at an entry: the convolution, the dense product and layer 1. -/
theorem layer2 (i : Fin 64) (c : Fin 128) (a : Fin 3 → Fin 64 → EReal) (t : Fin 16 → Fin 64 → EReal)
    (hp : Planes x0 x1 x2 x3 x4 x5 x6 i a t) :
    out2 x0 x1 x2 x3 x4 x5 x6 (ix2 i c)
      = convSum a t (fun j => atCol (fun k => k0_pay110 x0 x1 x2 x3 x4 x5 x6 (ix2 j k))) 128 c.val
        * k0_pay84 x0 x1 x2 x3 x4 x5 x6 (ix2 i 0) + k0_pay111 x0 x1 x2 x3 x4 x5 x6 (ix2 i c) + k0_pay109 x0 x1 x2 x3 x4 x5 x6 (ix2 i c) := by
  obtain ⟨⟨a0, a0'⟩, ⟨a1, a1'⟩, ⟨a2, a2'⟩, ⟨t0, t0'⟩, ⟨t1, t1'⟩, ⟨t2, t2'⟩, ⟨t3, t3'⟩, ⟨t4, t4'⟩, ⟨t5, t5'⟩, ⟨t6, t6'⟩, ⟨t7, t7'⟩⟩ := hp
  unfold convSum
  rw [sum_steps]
  unfold out2 k0_pay114 k0_pay113 k0_pay112
  unfold k0_pay68 k0_pay67 k0_pay66 k0_pay65 k0_pay64 k0_pay63 k0_pay62 k0_pay61 k0_pay60 k0_pay59 k0_pay58
  unfold k0_pay110
  generalize k0_pay56 (k0_pay84 x0 x1 x2 x3 x4 x5 x6) (k0_pay95 x0 x1 x2 x3 x4 x5 x6) (k0_pay101 x0 x1 x2 x3 x4 x5 x6) (k0_pay102 x0 x1 x2 x3 x4 x5 x6) (k0_pay103 x0 x1 x2 x3 x4 x5 x6) (k0_pay104 x0 x1 x2 x3 x4 x5 x6) (k0_pay105 x0 x1 x2 x3 x4 x5 x6) (k0_pay106 x0 x1 x2 x3 x4 x5 x6) (k0_pay107 x0 x1 x2 x3 x4 x5 x6) (k0_pay108 x0 x1 x2 x3 x4 x5 x6) (View.ld x5 r0_8) = Z
  generalize k0_pay93 x0 x1 x2 x3 x4 x5 x6 = A0 at *
  generalize k0_pay94 x0 x1 x2 x3 x4 x5 x6 = A1 at *
  generalize k0_pay95 x0 x1 x2 x3 x4 x5 x6 = A2 at *
  generalize k0_pay96 x0 x1 x2 x3 x4 x5 x6 = T0 at *
  generalize k0_pay97 x0 x1 x2 x3 x4 x5 x6 = T1 at *
  generalize k0_pay98 x0 x1 x2 x3 x4 x5 x6 = T2 at *
  generalize k0_pay99 x0 x1 x2 x3 x4 x5 x6 = T3 at *
  generalize k0_pay100 x0 x1 x2 x3 x4 x5 x6 = T4 at *
  generalize k0_pay101 x0 x1 x2 x3 x4 x5 x6 = T5 at *
  generalize k0_pay102 x0 x1 x2 x3 x4 x5 x6 = T6 at *
  generalize k0_pay103 x0 x1 x2 x3 x4 x5 x6 = T7 at *
  simp only [mulf_at, column128_at, addf_at, zero_at, step128, a0, a0', a1, a1', a2, a2', t0, t0', t1, t1', t2, t2', t3, t3',
    t4, t4', t5, t5', t6, t6', t7, t7', Fin.isValue, Fin.coe_ofNat_eq_mod, Nat.reduceMod, Nat.reduceMul, Nat.reduceAdd]

/-- Layer 3 at an entry: the convolution, the dense product and layer 2. -/
theorem layer3 (i : Fin 64) (c : Fin 128) (a : Fin 3 → Fin 64 → EReal) (t : Fin 16 → Fin 64 → EReal)
    (hp : Planes x0 x1 x2 x3 x4 x5 x6 i a t) :
    out3 x0 x1 x2 x3 x4 x5 x6 (ix2 i c)
      = max (convSum a t (fun j => atCol (fun k => k0_pay115 x0 x1 x2 x3 x4 x5 x6 (ix2 j k))) 128 c.val
        * k0_pay84 x0 x1 x2 x3 x4 x5 x6 (ix2 i 0) + dense3 x0 x1 x2 x3 x4 x5 x6 (ix2 i c) + out2 x0 x1 x2 x3 x4 x5 x6 (ix2 i c)) 0 := by
  obtain ⟨⟨a0, a0'⟩, ⟨a1, a1'⟩, ⟨a2, a2'⟩, ⟨t0, t0'⟩, ⟨t1, t1'⟩, ⟨t2, t2'⟩, ⟨t3, t3'⟩, ⟨t4, t4'⟩, ⟨t5, t5'⟩, ⟨t6, t6'⟩, ⟨t7, t7'⟩⟩ := hp
  unfold convSum
  rw [sum_steps]
  unfold out3
  generalize out2 x0 x1 x2 x3 x4 x5 x6 = o2
  generalize dense3 x0 x1 x2 x3 x4 x5 x6 = d3
  unfold k0_pay115
  unfold k0_pay79 k0_pay78 k0_pay77 k0_pay76 k0_pay75 k0_pay74 k0_pay73 k0_pay72
  generalize k0_pay70 (k0_pay84 x0 x1 x2 x3 x4 x5 x6) (k0_pay109 x0 x1 x2 x3 x4 x5 x6) (k0_pay111 x0 x1 x2 x3 x4 x5 x6) (k0_pay112 x0 x1 x2 x3 x4 x5 x6) (k0_pay113 x0 x1 x2 x3 x4 x5 x6) (k0_pay114 x0 x1 x2 x3 x4 x5 x6) (View.ld x5 r0_10) = Z
  generalize k0_pay93 x0 x1 x2 x3 x4 x5 x6 = A0 at *
  generalize k0_pay94 x0 x1 x2 x3 x4 x5 x6 = A1 at *
  generalize k0_pay95 x0 x1 x2 x3 x4 x5 x6 = A2 at *
  generalize k0_pay96 x0 x1 x2 x3 x4 x5 x6 = T0 at *
  generalize k0_pay97 x0 x1 x2 x3 x4 x5 x6 = T1 at *
  generalize k0_pay98 x0 x1 x2 x3 x4 x5 x6 = T2 at *
  generalize k0_pay99 x0 x1 x2 x3 x4 x5 x6 = T3 at *
  generalize k0_pay100 x0 x1 x2 x3 x4 x5 x6 = T4 at *
  generalize k0_pay101 x0 x1 x2 x3 x4 x5 x6 = T5 at *
  generalize k0_pay102 x0 x1 x2 x3 x4 x5 x6 = T6 at *
  generalize k0_pay103 x0 x1 x2 x3 x4 x5 x6 = T7 at *
  simp only [mulf_at, column128_at, addf_at, max_at, zero_at, step128, a0, a0', a1, a1', a2, a2', t0, t0', t1, t1', t2, t2', t3, t3',
    t4, t4', t5, t5', t6, t6', t7, t7', Fin.isValue, Fin.coe_ofNat_eq_mod, Nat.reduceMod, Nat.reduceMul, Nat.reduceAdd]

/-- The table Z of layer 1: the features times the first table of weights. -/
theorem z1_at (j : Fin 64) (k : Fin 3072) :
    k0_pay104 x0 x1 x2 x3 x4 x5 x6 (ix2 j k) = ∑ p : Fin 38, x2 (ix3 0 j p) * x3 (ix2 p k) := by
  unfold k0_pay104 k0_pay44 k0_pay43 r0_5 r0_6
  pointwise

/-- The dense product of layer 1. -/
theorem l1_at (j c : Fin 64) :
    k0_pay105 x0 x1 x2 x3 x4 x5 x6 (ix2 j c) = ∑ p : Fin 38, x2 (ix3 0 j p) * x4 (ix2 p c) := by
  unfold k0_pay105 k0_pay45 k0_pay43 r0_5 r0_7
  pointwise

/-- The table Z of layer 2: layer 1 above zero times the weights of rows 0 to 127. -/
theorem z2_at (j : Fin 64) (k : Fin 6144) :
    k0_pay110 x0 x1 x2 x3 x4 x5 x6 (ix2 j k)
      = ∑ p : Fin 128, max (k0_pay109 x0 x1 x2 x3 x4 x5 x6 (ix2 j p)) 0 * x5 (ix2 ⟨p.val, by omega⟩ k) := by
  unfold k0_pay110 k0_pay109 k0_pay56 k0_pay55 r0_8
  generalize k0_pay54 (k0_pay84 x0 x1 x2 x3 x4 x5 x6) (k0_pay95 x0 x1 x2 x3 x4 x5 x6) (k0_pay101 x0 x1 x2 x3 x4 x5 x6) (k0_pay102 x0 x1 x2 x3 x4 x5 x6) (k0_pay103 x0 x1 x2 x3 x4 x5 x6) (k0_pay104 x0 x1 x2 x3 x4 x5 x6) (k0_pay105 x0 x1 x2 x3 x4 x5 x6) (k0_pay106 x0 x1 x2 x3 x4 x5 x6) (k0_pay107 x0 x1 x2 x3 x4 x5 x6) (k0_pay108 x0 x1 x2 x3 x4 x5 x6) = o1
  pointwise

/-- The dense product of layer 2. -/
theorem l2_at (j : Fin 64) (c : Fin 128) :
    k0_pay111 x0 x1 x2 x3 x4 x5 x6 (ix2 j c)
      = ∑ p : Fin 128, max (k0_pay109 x0 x1 x2 x3 x4 x5 x6 (ix2 j p)) 0 * x6 (ix2 ⟨p.val, by omega⟩ c) := by
  unfold k0_pay111 k0_pay109 k0_pay57 k0_pay55 r0_9
  generalize k0_pay54 (k0_pay84 x0 x1 x2 x3 x4 x5 x6) (k0_pay95 x0 x1 x2 x3 x4 x5 x6) (k0_pay101 x0 x1 x2 x3 x4 x5 x6) (k0_pay102 x0 x1 x2 x3 x4 x5 x6) (k0_pay103 x0 x1 x2 x3 x4 x5 x6) (k0_pay104 x0 x1 x2 x3 x4 x5 x6) (k0_pay105 x0 x1 x2 x3 x4 x5 x6) (k0_pay106 x0 x1 x2 x3 x4 x5 x6) (k0_pay107 x0 x1 x2 x3 x4 x5 x6) (k0_pay108 x0 x1 x2 x3 x4 x5 x6) = o1
  pointwise

/-- The table Z of layer 3: layer 2 above zero times the weights of rows 128 to 255. -/
theorem z3_at (j : Fin 64) (k : Fin 6144) :
    k0_pay115 x0 x1 x2 x3 x4 x5 x6 (ix2 j k)
      = ∑ p : Fin 128, max (out2 x0 x1 x2 x3 x4 x5 x6 (ix2 j p)) 0 * x5 (ix2 ⟨128 + p.val, by omega⟩ k) := by
  unfold k0_pay115 out2 k0_pay70 k0_pay69 r0_10
  generalize k0_pay68 (k0_pay84 x0 x1 x2 x3 x4 x5 x6) (k0_pay109 x0 x1 x2 x3 x4 x5 x6) (k0_pay111 x0 x1 x2 x3 x4 x5 x6) (k0_pay112 x0 x1 x2 x3 x4 x5 x6) (k0_pay113 x0 x1 x2 x3 x4 x5 x6) (k0_pay114 x0 x1 x2 x3 x4 x5 x6) = o2
  pointwise

/-- The dense product of layer 3. -/
theorem l3_at (j : Fin 64) (c : Fin 128) :
    dense3 x0 x1 x2 x3 x4 x5 x6 (ix2 j c)
      = ∑ p : Fin 128, max (out2 x0 x1 x2 x3 x4 x5 x6 (ix2 j p)) 0 * x6 (ix2 ⟨128 + p.val, by omega⟩ c) := by
  unfold dense3 out2 k0_pay71 k0_pay69 r0_11
  generalize k0_pay68 (k0_pay84 x0 x1 x2 x3 x4 x5 x6) (k0_pay109 x0 x1 x2 x3 x4 x5 x6) (k0_pay111 x0 x1 x2 x3 x4 x5 x6) (k0_pay112 x0 x1 x2 x3 x4 x5 x6) (k0_pay113 x0 x1 x2 x3 x4 x5 x6) (k0_pay114 x0 x1 x2 x3 x4 x5 x6) = o2
  pointwise

/-- The block that the kernel stores for a scene: layer 3. -/
theorem out_at (i : Fin 64) (c : Fin 128) :
    out0_7 x0 x1 x2 x3 x4 x5 x6 (ix3 0 i c) = out3 x0 x1 x2 x3 x4 x5 x6 (ix2 i c) := by
  have h : out0_7 x0 x1 x2 x3 x4 x5 x6 = View.canon [⟨r0_12, k0_pay1 (out3 x0 x1 x2 x3 x4 x5 x6)⟩] := rfl
  rw [h]
  generalize out3 x0 x1 x2 x3 x4 x5 x6 = o3
  have hz : (![0, 0, 0] : Fin 3 → ℕ) = fun _ => 0 := by decide
  unfold r0_12
  rw [View.canon_unit_zero hz]
  unfold k0_pay1
  pointwise

end

end Cert.Proof.Step

end
-- ==== Proof.Pair.lean ====
/-
  The coefficients of one pair of points, as functions of the difference of their positions and of the mask: what both programs
  compute, in the kernel's form. Nothing here names a program.
-/
module

public import Idealize.ShloMosaic.Lib.Pointwise

@[expose] public section

noncomputable section

open Idealize.ShloMosaic Idealize.ShloMosaic.TcCoe Idealize.SL.Sem

namespace Cert.Proof.Pair

/-- The float32 number that both programs take for two pi. -/
abbrev twoPi : EReal := Ideal.ofBits FTy.f32 0x40C90FDB#32

/-- The square of the distance. -/
def sq (dx dy : EReal) : EReal := dx * dx + dy * dy

/-- The distance in units of the radius. -/
def dist (dx dy : EReal) : EReal :=
  Ideal.div (Ideal.sqrt (sq dx dy + Ideal.ofBits FTy.f32 0x2B8CBCCC#32)) (Ideal.ofBits FTy.f32 0x42200000#32)

/-- The angle between minus pi and pi, with a pair of equal points at angle zero. -/
def angle0 (dx dy : EReal) : EReal :=
  Ideal.atan2 (if Ideal.ofBits FTy.f32 0x2B8CBCCC#32 < sq dx dy then dy else 0) (if Ideal.ofBits FTy.f32 0x2B8CBCCC#32 < sq dx dy then dx else 1)

/-- The angle brought above zero. -/
def angle (dx dy : EReal) : EReal := if angle0 dx dy < 0 then angle0 dx dy + twoPi else angle0 dx dy

/-- The window's weight at distance `d`. -/
def window (d : EReal) : EReal := max (1 - d * d) 0 * (max (1 - d * d) 0 * max (1 - d * d) 0)

/-- The position among the three radii. -/
def rpos (d : EReal) : EReal := min 1 (max 0 d) * Ideal.ofBits FTy.f32 0x40000000#32

/-- The radius below it. -/
def r0 (d : EReal) : EReal := min ((((1#32).toInt : ℤ) : ℝ) : EReal) (max 0 (Ideal.liftRound Int.floor (rpos d)))

/-- The weight of the radius above it. -/
def wr (d : EReal) : EReal := min 1 (max 0 (rpos d - r0 d))

/-- The coefficients of the three radii for a pair at distance `d` and of weight `w`. -/
def rcoef (d w : EReal) (r : Fin 3) : EReal :=
  match r with
  | 0 => if r0 d < Ideal.ofBits FTy.f32 0x3F000000#32 then (1 - wr d) * w else 0
  | 1 => if r0 d < Ideal.ofBits FTy.f32 0x3F000000#32 then wr d * w else (1 - wr d) * w
  | 2 => if r0 d < Ideal.ofBits FTy.f32 0x3F000000#32 then 0 else wr d * w

/-- The remainder of a word by sixteen, of the divisor's sign. -/
def mod16 (x : BitVec 32) : BitVec 32 :=
  Scalar.select (IntOp.andi (IntOp.xori (IntOp.cmpi .slt (IntOp.remsi .vector x 16#32) 0#32) 0#1) (IntOp.cmpi .ne (IntOp.remsi .vector x 16#32) 0#32))
    (IntOp.addi (IntOp.remsi .vector x 16#32) 16#32) (IntOp.remsi .vector x 16#32)

/-- The weight of the direction above the position `s` among the sixteen directions. -/
def wt (s : EReal) : EReal := s - Ideal.liftRound Int.floor s

/-- The number of the direction below the position `s`. -/
def t0 (s : EReal) : BitVec 32 := mod16 (FloatOps.fptosi (F := Ideal) (φ := .f32) 32 (Ideal.liftRound Int.floor s))

/-- The number of the direction above it. -/
def t1 (s : EReal) : BitVec 32 := mod16 (IntOp.addi (t0 s) 1#32)

/-- The coefficients of the sixteen directions. -/
def tcoef (s : EReal) (u : Fin 16) : EReal :=
  (if t0 s = BitVec.ofNat 32 u.val then 1 - wt s else 0) + (if t1 s = BitVec.ofNat 32 u.val then wt s else 0)

/-- A choice by the equality of two words. -/
theorem select_eq {α : Type} (x y : BitVec 32) (a b : α) : Scalar.select (IntOp.cmpi .eq x y) a b = if x = y then a else b := by
  by_cases h : x = y
  · simp [Scalar.select, IntOp.cmpi, h]
  · have : (x == y) = false := by simpa using h
    simp [Scalar.select, IntOp.cmpi, h, this]

/-- The same where the left word has been lowered by one. -/
theorem select_eq_sub_one {α : Type} (x y : BitVec 32) (a b : α) :
    Scalar.select (IntOp.cmpi .eq (IntOp.subi x 1#32) y) a b = if x = y + 1#32 then a else b := by
  rw [select_eq, IntOp.subi]
  have : x - 1#32 = y ↔ x = y + 1#32 := by constructor <;> intro h <;> bv_omega
  simp only [this]

/-- The same where it has been lowered by zero. -/
theorem select_eq_sub_zero {α : Type} (x y : BitVec 32) (a b : α) :
    Scalar.select (IntOp.cmpi .eq (IntOp.subi x 0#32) y) a b = if x = y then a else b := by
  rw [select_eq, IntOp.subi, BitVec.sub_zero]

end Cert.Proof.Pair

end
-- ==== Proof.Planes.lean ====
/-
  The kernel's planes of coefficients and its inverse norm at an entry: the functions of Pair.lean at the differences of the positions.
-/
module

public import proofs.«01_k».proof.Proof.Layers
public import proofs.«01_k».proof.Proof.Pair

@[expose] public section

set_option maxRecDepth 16384

noncomputable section

open Idealize.ShloMosaic Idealize.ShloMosaic.TcCoe Idealize.SL.Sem
open Cert.KernelIdeal Cert.KernelIdeal.Gen

namespace Cert.Proof.Step

/-- The kernel's constant is 16 divided by the number taken for two pi. -/
theorem inv_sector_eq : (Named.named κ "inv_sector" 0x4022F983#32 : Ideal .f32) = ((33554432 / 13176795 : ℝ) : EReal) :=
  IdealRules.named_const.ideal_named_scalar _ _ _ _ rfl

section
variable (x0 : Vec Ideal S1x8x64 .f32) (x1 : Vec Ideal S1x64x8 .f32) (x2 : Vec Ideal S1x64x38 .f32) (x3 : Vec Ideal S38x3072 .bf16)
  (x4 : Vec Ideal S38x64 .bf16) (x5 : Vec Ideal S256x6144 .bf16) (x6 : Vec Ideal S256x128 .bf16)

/-- The difference of the first coordinates. -/
def dx (i j : Fin 64) : EReal := x0 (ix3 0 0 j) - x1 (ix3 0 i 0)
/-- The difference of the second coordinates. -/
def dy (i j : Fin 64) : EReal := x0 (ix3 0 1 j) - x1 (ix3 0 i 1)
/-- The distance of a pair. -/
def dd (i j : Fin 64) : EReal := Pair.dist (dx x0 x1 i j) (dy x0 x1 i j)
/-- The weight of a pair: the window times the mask. -/
def ww (i j : Fin 64) : EReal := Pair.window (dd x0 x1 i j) * x0 (ix3 0 2 j)
/-- The position of a pair among the directions. -/
def ss (i j : Fin 64) : EReal := Pair.angle (dx x0 x1 i j) (dy x0 x1 i j) * ((33554432 / 13176795 : ℝ) : EReal)

theorem dist_at (i j : Fin 64) : k0_pay81 x0 x1 x2 x3 x4 x5 x6 (ix2 i j) = dd x0 x1 i j := by
  unfold k0_pay81 k0_pay6 k0_pay5 k0_pay4 k0_pay3 r0_0 r0_1 r0_3 r0_4
  pointwise
  rfl

theorem angle_at (i j : Fin 64) : k0_pay82 x0 x1 x2 x3 x4 x5 x6 (ix2 i j) = Pair.angle (dx x0 x1 i j) (dy x0 x1 i j) := by
  unfold k0_pay82 k0_pay7
  unfold k0_pay5 k0_pay4 k0_pay3 r0_0 r0_1 r0_3 r0_4
  pointwise
  rfl

theorem weight_at (i j : Fin 64) :
    k0_pay9 (k0_pay80 x0 x1 x2 x3 x4 x5 x6) (k0_pay83 x0 x1 x2 x3 x4 x5 x6) (ix2 i j) = ww x0 x1 i j := by
  unfold ww
  rw [← dist_at x0 x1 x2 x3 x4 x5 x6]
  unfold k0_pay9 k0_pay80 k0_pay83 k0_pay81 k0_pay8 k0_pay2 r0_2
  pointwise
  rfl

/-- The inverse of the norm. -/
theorem inv_at (i : Fin 64) : k0_pay84 x0 x1 x2 x3 x4 x5 x6 (ix2 i 0)
    = Ideal.div 1 (∑ j, ww x0 x1 i j + Ideal.ofBits FTy.f32 0x322BCC77#32) := by
  simp only [← weight_at x0 x1 x2 x3 x4 x5 x6]
  unfold k0_pay84 k0_pay10
  pointwise

theorem wt_at (i j : Fin 64) : k0_pay85 x0 x1 x2 x3 x4 x5 x6 (ix2 i j) = Pair.wt (ss x0 x1 i j) := by
  unfold ss
  rw [← angle_at x0 x1 x2 x3 x4 x5 x6, ← inv_sector_eq]
  unfold k0_pay85 k0_pay21 k0_pay20 k0_pay19
  pointwise
  rfl

theorem t0_at (i j : Fin 64) : k0_pay86 x0 x1 x2 x3 x4 x5 x6 (ix2 i j) = Pair.t0 (ss x0 x1 i j) := by
  unfold ss
  rw [← angle_at x0 x1 x2 x3 x4 x5 x6, ← inv_sector_eq]
  unfold k0_pay86 k0_pay22 k0_pay20 k0_pay19
  pointwise
  rfl

theorem t1_at (i j : Fin 64) : k0_pay87 x0 x1 x2 x3 x4 x5 x6 (ix2 i j) = Pair.t1 (ss x0 x1 i j) := by
  unfold Pair.t1
  rw [← t0_at x0 x1 x2 x3 x4 x5 x6]
  unfold k0_pay87 k0_pay86 k0_pay23
  pointwise
  rfl

theorem half_lo : ∀ j : Fin 64, BitVec.setWidth 32 (IntOp.cmpi CmpIPredicate.sge (BitVec.ofNat 32 j.val) 64#32) = 0#32 := by decide +kernel

theorem half_hi : ∀ j : Fin 64, BitVec.setWidth 32 (IntOp.cmpi CmpIPredicate.sge (BitVec.ofNat 32 (64 + j.val)) 64#32) = 1#32 := by decide +kernel

/-- The kernel's planes hold the coefficients of the radii and of the directions. -/
theorem planes (i : Fin 64) : Planes x0 x1 x2 x3 x4 x5 x6 i (fun r j => Pair.rcoef (dd x0 x1 i j) (ww x0 x1 i j) r)
    (fun u j => Pair.tcoef (ss x0 x1 i j) u) := by
  constructor
  case a0 =>
    unfold k0_pay93 k0_pay30 k0_pay15 k0_pay14 k0_pay13 k0_pay12 k0_pay11
    constructor <;> intro j <;> pointwise <;> rw [dist_at, weight_at] <;> rfl
  case a1 =>
    unfold k0_pay94 k0_pay31 k0_pay16 k0_pay14 k0_pay13 k0_pay12 k0_pay11
    constructor <;> intro j <;> pointwise <;> rw [dist_at, weight_at] <;> rfl
  case a2 =>
    unfold k0_pay95 k0_pay32 k0_pay18 k0_pay17 k0_pay14 k0_pay13 k0_pay12 k0_pay11
    constructor <;> intro j <;> pointwise <;> rw [dist_at, weight_at] <;> rfl
  all_goals
    first
      | unfold k0_pay96 k0_pay33
      | unfold k0_pay97 k0_pay34
      | unfold k0_pay98 k0_pay35
      | unfold k0_pay99 k0_pay38 k0_pay36 k0_pay37
      | unfold k0_pay100 k0_pay39
      | unfold k0_pay101 k0_pay40
      | unfold k0_pay102 k0_pay41
      | unfold k0_pay103 k0_pay42
    try unfold k0_pay89 k0_pay90
    try unfold k0_pay92
    try unfold k0_pay91
    unfold k0_pay26 k0_pay27
    try unfold k0_pay29
    unfold k0_pay28 k0_pay25 k0_pay88 k0_pay24
    constructor <;> intro j <;> pointwise
      <;> simp only [half_lo, half_hi, Pair.select_eq_sub_one, Pair.select_eq_sub_zero, wt_at, t0_at, t1_at] <;> rfl

end

end Cert.Proof.Step

end
-- ==== Proof.PairMath.lean ====
/-
  The reference's way to the coefficients of a pair, set against the kernel's: the remainder of the angle by two pi, the
  remainders by sixteen, and the sums of ones picked out by an equality.
-/
module

public import proofs.«01_k».proof.Proof.Pair
public import Idealize.ShloMosaic.Lib.Affine

@[expose] public section

set_option maxRecDepth 16384

noncomputable section

open Idealize.ShloMosaic

namespace Cert.Proof.Pair

theorem twoPi_eq : twoPi = ((13176795 / 2097152 : ℝ) : EReal) := by
  simp [twoPi, Ideal.ofBits, Ideal.ieee, -EReal.coe_mul]
  norm_num

/-- An angle is at most pi in size. -/
theorem atan2_real (y x : ℝ) : ∃ a : ℝ, Ideal.atan2 (y : EReal) (x : EReal) = (a : EReal) ∧ |a| ≤ Real.pi := by
  have hp := Real.pi_pos
  refine ⟨_, rfl, ?_⟩
  have h1 := Real.arctan_lt_pi_div_two (y / x)
  have h2 := Real.neg_pi_div_two_lt_arctan (y / x)
  rw [abs_le]
  split_ifs with a b c d e
  · constructor <;> linarith
  · have h3 : Real.arctan (y / x) ≤ 0 := Real.arctan_zero ▸ Real.arctan_strictMono.monotone (div_nonpos_of_nonneg_of_nonpos c b.le)
    constructor <;> linarith
  · have h3 : 0 ≤ Real.arctan (y / x) := Real.arctan_nonneg.2 (div_nonneg_of_nonpos (not_le.1 c).le b.le)
    constructor <;> linarith
  · constructor <;> linarith
  · constructor <;> linarith
  · constructor <;> linarith

theorem atan2_cases (y x : EReal) : Ideal.atan2 y x = ⊥ ∨ ∃ a : ℝ, Ideal.atan2 y x = (a : EReal) ∧ |a| ≤ Real.pi := by
  induction y with
  | bot => left; rfl
  | top => left; rfl
  | coe y =>
    induction x with
    | bot => left; rfl
    | top => left; rfl
    | coe x => right; exact atan2_real y x

/-- The remainder by two pi of an angle between minus pi and pi is the angle. -/
theorem remf_angle (a : ℝ) (h : |a| ≤ Real.pi) : Ideal.remf (a : EReal) twoPi = (a : EReal) := by
  have hp : Real.pi ≤ 4 := Real.pi_le_four
  rw [abs_le] at h
  rw [twoPi_eq]
  show (if (13176795 / 2097152 : ℝ) = 0 then (⊥ : EReal) else _) = _
  rw [if_neg (by norm_num)]
  have : Ideal.truncInt (a / (13176795 / 2097152 : ℝ)) = 0 := by
    unfold Ideal.truncInt
    split_ifs with h0
    · rw [Int.floor_eq_zero_iff]
      refine ⟨h0, ?_⟩
      rw [div_lt_one (by norm_num)]
      linarith
    · rw [Int.ceil_eq_zero_iff]
      refine ⟨?_, (not_le.1 h0).le⟩
      rw [lt_div_iff₀ (by norm_num)]
      linarith
  rw [this]
  simp

/-- A choice by the reference's test of a remainder's sign. -/
theorem select_sign {α : Type} (R : EReal) (x y : α) :
    Scalar.select (IntOp.andi (IntOp.cmpi .ne (Ideal.cmp .olt R 0) (Ideal.cmp .olt twoPi 0)) (Ideal.cmp .une R 0)) x y
      = if R < 0 then x else y := by
  have h2 : Ideal.cmp .olt twoPi 0 = 0#1 := by
    have : ¬ twoPi < 0 := by rw [twoPi_eq]; exact not_lt.2 (by exact_mod_cast (by norm_num : (0 : ℝ) ≤ 13176795 / 2097152))
    simp [Ideal.cmp, this]
  rw [h2]
  by_cases h : R < 0
  · have : R ≠ 0 := h.ne
    simp [Ideal.cmp, h, this, Scalar.select, IntOp.andi, IntOp.cmpi]
  · simp [Ideal.cmp, h, Scalar.select, IntOp.andi, IntOp.cmpi]

/-- The reference's angle is the kernel's. -/
theorem angle_mod (dx dy : EReal) :
    (if Ideal.remf (angle0 dx dy) twoPi < 0 then Ideal.remf (angle0 dx dy) twoPi + twoPi else Ideal.remf (angle0 dx dy) twoPi) = angle dx dy := by
  unfold angle
  have h : Ideal.remf (angle0 dx dy) twoPi = angle0 dx dy := by
    rcases atan2_cases (if Ideal.ofBits FTy.f32 0x2B8CBCCC#32 < sq dx dy then dy else 0) (if Ideal.ofBits FTy.f32 0x2B8CBCCC#32 < sq dx dy then dx else 1) with h | ⟨a, h, h'⟩
    · unfold angle0
      rw [h]
      rfl
    · unfold angle0
      rw [h]
      exact remf_angle a h'
  rw [h]

/-- A sixteenth turn as the unit: a product for a quotient. -/
theorem sectors (a : EReal) : Ideal.div a twoPi * Ideal.ofBits FTy.f32 0x41800000#32 = a * ((33554432/13176795 : ℝ) : EReal) := by
  have h : Ideal.ofBits FTy.f32 0x41800000#32 = ((16 : ℝ) : EReal) := by
    simp [Ideal.ofBits, Ideal.ieee, -EReal.coe_mul]
    norm_num
  rw [h, twoPi_eq, Ideal.div_coe (by norm_num : (13176795 / 2097152 : ℝ) ≠ 0), mul_assoc, ← EReal.coe_mul]
  congr 2
  norm_num

/-- The reference's remainder by sixteen is the kernel's. -/
theorem mod16_host (x : BitVec 32) :
    Scalar.select (IntOp.andi (IntOp.cmpi .ne (IntOp.cmpi .slt (IntOp.remsi .host x 16#32) 0#32) (IntOp.cmpi .slt 16#32 0#32))
        (IntOp.cmpi .ne (IntOp.remsi .host x 16#32) 0#32)) (IntOp.addi (IntOp.remsi .host x 16#32) 16#32) (IntOp.remsi .host x 16#32)
      = mod16 x := by
  unfold mod16
  rw [IntOp.remsi_of_pos .host (by decide), IntOp.remsi_of_pos .vector (by decide)]
  generalize x.srem 16#32 = y
  have h : ∀ z : BitVec 1, IntOp.cmpi .ne z (IntOp.cmpi .slt 16#32 0#32) = IntOp.xori z 0#1 := by decide
  rw [h]

/-- One or zero by an equality, times a number. -/
theorem hot_mul (x y : BitVec 32) (a : EReal) :
    (FloatOps.uitofp (F := Ideal) FTy.f32 (IntOp.cmpi .eq x y) : EReal) * a = if x = y then a else 0 := by
  show (((IntOp.cmpi .eq x y).toNat : ℝ) : EReal) * a = _
  by_cases h : x = y
  · simp [IntOp.cmpi, h]
  · have : (x == y) = false := by simpa using h
    simp [IntOp.cmpi, h, this]

theorem half_eq : Ideal.ofBits FTy.f32 0x3F000000#32 = ((2⁻¹ : ℝ) : EReal) := by
  simp [Ideal.ofBits, Ideal.ieee, -EReal.coe_mul]
  norm_num

theorem two_eq : Ideal.ofBits FTy.f32 0x40000000#32 = ((2 : ℝ) : EReal) := by
  simp [Ideal.ofBits, Ideal.ieee, -EReal.coe_mul]
  norm_num

theorem one_eq : ((((1#32).toInt : ℤ) : ℝ) : EReal) = 1 := by norm_num

/-- The radius below is number zero or number one. -/
theorem r0_cases (d : EReal) : r0 d = 0 ∨ r0 d = 1 := by
  have h : ∃ x : ℝ, 0 ≤ x ∧ min 1 (max 0 d) = (x : EReal) := by
    induction d with
    | bot => exact ⟨0, le_rfl, by simp⟩
    | top => exact ⟨1, zero_le_one, by simp⟩
    | coe d => exact ⟨min 1 (max 0 d), le_min zero_le_one (le_max_left _ _), by push_cast; rfl⟩
  obtain ⟨x, hx, e⟩ := h
  unfold r0 rpos
  rw [e, two_eq, one_eq, ← EReal.coe_mul]
  show min 1 (max 0 (((⌊x * 2⌋ : ℤ) : ℝ) : EReal)) = 0 ∨ min 1 (max 0 (((⌊x * 2⌋ : ℤ) : ℝ) : EReal)) = 1
  have h0 : 0 ≤ ⌊x * 2⌋ := Int.floor_nonneg.2 (by linarith)
  rcases h0.eq_or_lt with h1 | h1
  · left
    rw [← h1]
    simp
  · right
    have h2 : (1 : EReal) ≤ (((⌊x * 2⌋ : ℤ) : ℝ) : EReal) := by exact_mod_cast h1
    rw [max_eq_right (zero_le_one.trans h2), min_eq_left h2]

theorem word_zero : (FloatOps.fptosi (F := Ideal) (φ := .f32) 32 (0 : EReal)) = 0#32 := by
  show BitVec.ofInt 32 (max (-(2 ^ 31 : ℕ)) (min ((2 ^ 31 : ℕ) - 1) (Ideal.truncInt (0 : ℝ)))) = _
  simp [Ideal.truncInt]

theorem word_one : (FloatOps.fptosi (F := Ideal) (φ := .f32) 32 (1 : EReal)) = 1#32 := by
  show BitVec.ofInt 32 (max (-(2 ^ 31 : ℕ)) (min ((2 ^ 31 : ℕ) - 1) (Ideal.truncInt (1 : ℝ)))) = _
  simp [Ideal.truncInt]

/-- The reference's coefficient of a radius, a direction and a weight is the kernel's product of two. -/
theorem coef_eq (d w x : EReal) (r : Fin 3) :
    ((if (FloatOps.fptosi (F := Ideal) (φ := .f32) 32 (r0 d)) = BitVec.ofNat 32 r.val then 1 - wr d else 0)
      + (if IntOp.addi (FloatOps.fptosi (F := Ideal) (φ := .f32) 32 (r0 d)) 1#32 = BitVec.ofNat 32 r.val then wr d else 0)) * x * w
      = rcoef d w r * x := by
  have l0 : (0 : EReal) < ((2⁻¹ : ℝ) : EReal) := by exact_mod_cast (by norm_num : (0 : ℝ) < 2⁻¹)
  have l1 : ¬ (1 : EReal) < ((2⁻¹ : ℝ) : EReal) := not_lt.2 (by exact_mod_cast (by norm_num : (2⁻¹ : ℝ) ≤ 1))
  unfold rcoef
  rw [half_eq]
  rcases r0_cases d with h | h
  · rw [h, word_zero]
    fin_cases r
    · simp [l0, IntOp.addi, mul_right_comm]
    · simp [l0, IntOp.addi, mul_right_comm]
    · simp [l0, IntOp.addi, mul_right_comm]
  · rw [h, word_one]
    fin_cases r
    · simp [l1, IntOp.addi, mul_right_comm]
    · simp [l1, IntOp.addi, mul_right_comm]
    · simp [l1, IntOp.addi, mul_right_comm]

/-- A window is not negative. -/
theorem window_nonneg (d : EReal) : 0 ≤ window d :=
  mul_nonneg (le_max_right _ _) (mul_nonneg (le_max_right _ _) (le_max_right _ _))

theorem eps_pos : (0 : EReal) < Ideal.ofBits FTy.f32 0x322BCC77#32 := by
  simp [Ideal.ofBits, Ideal.ieee, -EReal.coe_mul]

/-- A product with a number's quotient is a quotient, if the number is not zero. -/
theorem mul_div_one (a b : EReal) (h : b ≠ 0) : a * Ideal.div 1 b = Ideal.div a b := by
  unfold Ideal.div
  rw [if_neg h, if_neg h, one_mul]

end Cert.Proof.Pair

end
-- ==== Proof.Gather.lean ====
/-
  The reference's three shifts along the last axis, and its product over three axes, read at an index.
-/
module

public import proofs.«01_k».proof.Defs
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen Cert.ReferenceIdeal.Value

namespace Cert.Proof.Ref

/-- The coefficients at the directions named by a table. -/
theorem take_dir (x : FVec Ideal S32x64x64x3x16 .f32) (idx : IVec S8x16x1 32) (b : Fin 32) (i j : Fin 64) (r : Fin 3) (m : Fin 8) (t : Fin 16) :
    Host.gather gather_S32x64x64x3x16_S8x16x1_S32x64x64x3x8x16_0123_4_n_n_4_2_32646431 x idx (ix6 b i j r m t)
      = x (ix5 b i j r ⟨min (idx (ix3 m t 0)).toInt.toNat 15, by omega⟩) := by
  unfold Host.gather
  congr 1
  funext a
  refine Fin.ext ?_
  show GatherDims.start _ (ix6 b i j r m t) idx a + GatherDims.batchCoord _ (ix6 b i j r m t) a + GatherDims.offCoord _ (ix6 b i j r m t) a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, _⟩ => exact Nat.zero_add _
  | ⟨4, _⟩ =>
    show min (idx (GatherDims.siIdx _ (ix6 b i j r m t) _)).toInt.toNat 15 + 0 = _
    rw [Nat.add_zero]
    have hsi : ∀ z, GatherDims.siIdx gather_S32x64x64x3x16_S8x16x1_S32x64x64x3x8x16_0123_4_n_n_4_2_32646431 (ix6 b i j r m t) z = ix3 m t 0 := by
      intro z
      funext b
      refine Fin.ext ?_
      match b with
      | ⟨0, _⟩ => rfl
      | ⟨1, _⟩ => rfl
      | ⟨2, _⟩ => exact Nat.lt_one_iff.mp z.isLt
    rw [hsi]
    rfl

/-- The components at the directions named by a table. -/
theorem take_sum (x : FVec Ideal S32x64x19x15 .f32) (idx : IVec S8x8x1 32) (b : Fin 32) (j : Fin 64) (i : Fin 19) (m s : Fin 8) :
    Host.gather gather_S32x64x19x15_S8x8x1_S32x64x19x8x8_012_3_n_n_3_2_3264191 x idx (ix5 b j i m s)
      = x (ix4 b j i ⟨min (idx (ix3 m s 0)).toInt.toNat 14, by omega⟩) := by
  unfold Host.gather
  congr 1
  funext a
  refine Fin.ext ?_
  show GatherDims.start _ (ix5 b j i m s) idx a + GatherDims.batchCoord _ (ix5 b j i m s) a + GatherDims.offCoord _ (ix5 b j i m s) a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, _⟩ =>
    show min (idx (GatherDims.siIdx _ (ix5 b j i m s) _)).toInt.toNat 14 + 0 = _
    rw [Nat.add_zero]
    have hsi : ∀ z, GatherDims.siIdx gather_S32x64x19x15_S8x8x1_S32x64x19x8x8_012_3_n_n_3_2_3264191 (ix5 b j i m s) z = ix3 m s 0 := by
      intro z
      funext b
      refine Fin.ext ?_
      match b with
      | ⟨0, _⟩ => rfl
      | ⟨1, _⟩ => rfl
      | ⟨2, _⟩ => exact Nat.lt_one_iff.mp z.isLt
    rw [hsi]
    rfl

/-- The features at the orientations named by a table. -/
theorem take_rot (x : FVec Ideal S32x64x16x8 .f32) (idx : IVec S8x8x1 32) (b : Fin 32) (j : Fin 64) (i : Fin 16) (m s : Fin 8) :
    Host.gather gather_S32x64x16x8_S8x8x1_S32x64x16x8x8_012_3_n_n_3_2_3264161 x idx (ix5 b j i m s)
      = x (ix4 b j i ⟨min (idx (ix3 m s 0)).toInt.toNat 7, by omega⟩) := by
  unfold Host.gather
  congr 1
  funext a
  refine Fin.ext ?_
  show GatherDims.start _ (ix5 b j i m s) idx a + GatherDims.batchCoord _ (ix5 b j i m s) a + GatherDims.offCoord _ (ix5 b j i m s) a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, _⟩ =>
    show min (idx (GatherDims.siIdx _ (ix5 b j i m s) _)).toInt.toNat 7 + 0 = _
    rw [Nat.add_zero]
    have hsi : ∀ z, GatherDims.siIdx gather_S32x64x16x8_S8x8x1_S32x64x16x8x8_012_3_n_n_3_2_3264161 (ix5 b j i m s) z = ix3 m s 0 := by
      intro z
      funext b
      refine Fin.ext ?_
      match b with
      | ⟨0, _⟩ => rfl
      | ⟨1, _⟩ => rfl
      | ⟨2, _⟩ => exact Nat.lt_one_iff.mp z.isLt
    rw [hsi]
    rfl

theorem word_dir : ∀ (m : Fin 8) (t : Fin 16), min (lit3 (S8x16.rowMajor (ix2 m t))).toInt.toNat 15 = (t.val + 2 * m.val) % 16 := by
  decide +kernel

theorem word_sum : ∀ m s : Fin 8, min (lit6 (S8x8.rowMajor (ix2 m s))).toInt.toNat 14 = m.val + s.val := by
  decide +kernel

theorem word_rot : ∀ m s : Fin 8, min (lit7 (S8x8.rowMajor (ix2 m s))).toInt.toNat 7 = (s.val + m.val) % 8 := by
  decide +kernel

theorem shift_dir (x : FVec Ideal S32x64x64x3x16 .f32) (b : Fin 32) (i j : Fin 64) (r : Fin 3) (m : Fin 8) (t : Fin 16) :
    Host.gather gather_S32x64x64x3x16_S8x16x1_S32x64x64x3x8x16_0123_4_n_n_4_2_32646431 x
        (broadcastInDim S8x16x1 ![0, 1] bcast_S8x16_S8x16x1_0_1 (fun i => lit3 (S8x16.rowMajor i))) (ix6 b i j r m t)
      = x (ix5 b i j r ⟨(t.val + 2 * m.val) % 16, Nat.mod_lt _ (by decide)⟩) := by
  rw [take_dir]
  have e := word_dir m t
  refine congrArg x (congrArg (ix5 b i j r) (Fin.ext (Eq.trans ?_ e)))
  pointwise

theorem shift_sum (x : FVec Ideal S32x64x19x15 .f32) (b : Fin 32) (j : Fin 64) (i : Fin 19) (m s : Fin 8) :
    Host.gather gather_S32x64x19x15_S8x8x1_S32x64x19x8x8_012_3_n_n_3_2_3264191 x
        (broadcastInDim S8x8x1 ![0, 1] bcast_S8x8_S8x8x1_0_1 (fun i => lit6 (S8x8.rowMajor i))) (ix5 b j i m s)
      = x (ix4 b j i ⟨m.val + s.val, by omega⟩) := by
  rw [take_sum]
  have e := word_sum m s
  refine congrArg x (congrArg (ix4 b j i) (Fin.ext (Eq.trans ?_ e)))
  pointwise

theorem shift_rot (x : FVec Ideal S32x64x16x8 .f32) (b : Fin 32) (j : Fin 64) (i : Fin 16) (m s : Fin 8) :
    Host.gather gather_S32x64x16x8_S8x8x1_S32x64x16x8x8_012_3_n_n_3_2_3264161 x
        (broadcastInDim S8x8x1 ![0, 1] bcast_S8x8_S8x8x1_0_1 (fun i => lit7 (S8x8.rowMajor i))) (ix5 b j i m s)
      = x (ix4 b j i ⟨(s.val + m.val) % 8, Nat.mod_lt _ (by decide)⟩) := by
  rw [take_rot]
  have e := word_rot m s
  refine congrArg x (congrArg (ix4 b j i) (Fin.ext (Eq.trans ?_ e)))
  pointwise

/-- The contraction index of the product over a neighbour, a radius and a direction. -/
def pick8 (j : Fin 64) (r : Fin 3) (t : Fin 16) : (DotDims.contr dot_S32x64x8x8x3x16_S32x64x64x3x8x16_S32x8x8x64_145_235_2_1_03_04).Idx :=
  fun p => match p with
    | ⟨0, _⟩ => j
    | ⟨1, _⟩ => r
    | ⟨2, _⟩ => t

/-- They are the triples of a neighbour, a radius and a direction. -/
def picks8 : Fin 64 × Fin 3 × Fin 16 ≃ (DotDims.contr dot_S32x64x8x8x3x16_S32x64x64x3x8x16_S32x8x8x64_145_235_2_1_03_04).Idx where
  toFun k := pick8 k.1 k.2.1 k.2.2
  invFun kk := (kk ⟨0, by decide⟩, kk ⟨1, by decide⟩, kk ⟨2, by decide⟩)
  left_inv _ := rfl
  right_inv kk := by
    funext p
    match p with
    | ⟨0, _⟩ => rfl
    | ⟨1, _⟩ => rfl
    | ⟨2, _⟩ => rfl

/-- The product over the neighbours, the radii and the directions, with 8 outputs. -/
theorem dot8 (x : FVec Ideal S32x64x8x8x3x16 .f32) (y : FVec Ideal S32x64x64x3x8x16 .f32) (b : Fin 32) (m : Fin 8) (o : Fin 8) (i : Fin 64) :
    Host.dotGeneral dot_S32x64x8x8x3x16_S32x64x64x3x8x16_S32x8x8x64_145_235_2_1_03_04 none x y (ix4 b m o i)
      = ∑ j : Fin 64, ∑ r : Fin 3, ∑ t : Fin 16, x (ix6 b j o m r t) * y (ix6 b i j r m t) := by
  have h : Host.dotGeneral dot_S32x64x8x8x3x16_S32x64x64x3x8x16_S32x8x8x64_145_235_2_1_03_04 none x y (ix4 b m o i)
      = ∑ kk : (DotDims.contr dot_S32x64x8x8x3x16_S32x64x64x3x8x16_S32x8x8x64_145_235_2_1_03_04).Idx,
        x (DotDims.lhsIdx dot_S32x64x8x8x3x16_S32x64x64x3x8x16_S32x8x8x64_145_235_2_1_03_04 (ix4 b m o i) kk) * y (DotDims.rhsIdx dot_S32x64x8x8x3x16_S32x64x64x3x8x16_S32x8x8x64_145_235_2_1_03_04 (ix4 b m o i) kk) := zero_add _
  rw [h, ← Fintype.sum_equiv picks8 (fun k => x (ix6 b k.1 o m k.2.1 k.2.2) * y (ix6 b i k.1 k.2.1 m k.2.2)) _ fun k => ?_]
  · simp only [Fintype.sum_prod_type]
  · have hl : DotDims.lhsIdx dot_S32x64x8x8x3x16_S32x64x64x3x8x16_S32x8x8x64_145_235_2_1_03_04 (ix4 b m o i) (picks8 k) = ix6 b k.1 o m k.2.1 k.2.2 := by
      funext a
      match a with
      | ⟨0, _⟩ => rfl
      | ⟨1, _⟩ => rfl
      | ⟨2, _⟩ => rfl
      | ⟨3, _⟩ => rfl
      | ⟨4, _⟩ => rfl
      | ⟨5, _⟩ => rfl
    have hr : DotDims.rhsIdx dot_S32x64x8x8x3x16_S32x64x64x3x8x16_S32x8x8x64_145_235_2_1_03_04 (ix4 b m o i) (picks8 k) = ix6 b i k.1 k.2.1 m k.2.2 := by
      funext a
      match a with
      | ⟨0, _⟩ => rfl
      | ⟨1, _⟩ => rfl
      | ⟨2, _⟩ => rfl
      | ⟨3, _⟩ => rfl
      | ⟨4, _⟩ => rfl
      | ⟨5, _⟩ => rfl
    rw [hl, hr]

/-- The contraction index of the product over a neighbour, a radius and a direction. -/
def pick16 (j : Fin 64) (r : Fin 3) (t : Fin 16) : (DotDims.contr dot_S32x64x16x8x3x16_S32x64x64x3x8x16_S32x8x16x64_145_235_2_1_03_04).Idx :=
  fun p => match p with
    | ⟨0, _⟩ => j
    | ⟨1, _⟩ => r
    | ⟨2, _⟩ => t

/-- They are the triples of a neighbour, a radius and a direction. -/
def picks16 : Fin 64 × Fin 3 × Fin 16 ≃ (DotDims.contr dot_S32x64x16x8x3x16_S32x64x64x3x8x16_S32x8x16x64_145_235_2_1_03_04).Idx where
  toFun k := pick16 k.1 k.2.1 k.2.2
  invFun kk := (kk ⟨0, by decide⟩, kk ⟨1, by decide⟩, kk ⟨2, by decide⟩)
  left_inv _ := rfl
  right_inv kk := by
    funext p
    match p with
    | ⟨0, _⟩ => rfl
    | ⟨1, _⟩ => rfl
    | ⟨2, _⟩ => rfl

/-- The product over the neighbours, the radii and the directions, with 16 outputs. -/
theorem dot16 (x : FVec Ideal S32x64x16x8x3x16 .f32) (y : FVec Ideal S32x64x64x3x8x16 .f32) (b : Fin 32) (m : Fin 8) (o : Fin 16) (i : Fin 64) :
    Host.dotGeneral dot_S32x64x16x8x3x16_S32x64x64x3x8x16_S32x8x16x64_145_235_2_1_03_04 none x y (ix4 b m o i)
      = ∑ j : Fin 64, ∑ r : Fin 3, ∑ t : Fin 16, x (ix6 b j o m r t) * y (ix6 b i j r m t) := by
  have h : Host.dotGeneral dot_S32x64x16x8x3x16_S32x64x64x3x8x16_S32x8x16x64_145_235_2_1_03_04 none x y (ix4 b m o i)
      = ∑ kk : (DotDims.contr dot_S32x64x16x8x3x16_S32x64x64x3x8x16_S32x8x16x64_145_235_2_1_03_04).Idx,
        x (DotDims.lhsIdx dot_S32x64x16x8x3x16_S32x64x64x3x8x16_S32x8x16x64_145_235_2_1_03_04 (ix4 b m o i) kk) * y (DotDims.rhsIdx dot_S32x64x16x8x3x16_S32x64x64x3x8x16_S32x8x16x64_145_235_2_1_03_04 (ix4 b m o i) kk) := zero_add _
  rw [h, ← Fintype.sum_equiv picks16 (fun k => x (ix6 b k.1 o m k.2.1 k.2.2) * y (ix6 b i k.1 k.2.1 m k.2.2)) _ fun k => ?_]
  · simp only [Fintype.sum_prod_type]
  · have hl : DotDims.lhsIdx dot_S32x64x16x8x3x16_S32x64x64x3x8x16_S32x8x16x64_145_235_2_1_03_04 (ix4 b m o i) (picks16 k) = ix6 b k.1 o m k.2.1 k.2.2 := by
      funext a
      match a with
      | ⟨0, _⟩ => rfl
      | ⟨1, _⟩ => rfl
      | ⟨2, _⟩ => rfl
      | ⟨3, _⟩ => rfl
      | ⟨4, _⟩ => rfl
      | ⟨5, _⟩ => rfl
    have hr : DotDims.rhsIdx dot_S32x64x16x8x3x16_S32x64x64x3x8x16_S32x8x16x64_145_235_2_1_03_04 (ix4 b m o i) (picks16 k) = ix6 b i k.1 k.2.1 m k.2.2 := by
      funext a
      match a with
      | ⟨0, _⟩ => rfl
      | ⟨1, _⟩ => rfl
      | ⟨2, _⟩ => rfl
      | ⟨3, _⟩ => rfl
      | ⟨4, _⟩ => rfl
      | ⟨5, _⟩ => rfl
    rw [hl, hr]

end Cert.Proof.Ref

end
-- ==== Proof.RefPair.lean ====
/-
  The reference's coefficients of a pair, at an index: the kernel's coefficients of the same difference of positions.
-/
module

public import proofs.«01_k».proof.Proof.Gather
public import proofs.«01_k».proof.Proof.PairMath

@[expose] public section

set_option maxRecDepth 16384

noncomputable section

open Idealize.ShloMosaic Idealize.ShloMosaic.TcCoe Idealize.SL.Sem
open Cert.ReferenceIdeal Cert.ReferenceIdeal.Gen Cert.ReferenceIdeal.Value

namespace Cert.Proof.Ref
variable (V0 : Valuation τ sig (Elt Ideal)) (b : Fin 32) (i j : Fin 64)

/-- The positions, the mask. -/
abbrev pos : FVec Ideal S32x64x2 .f32 := V0 (Proc.devRef .tc main_arg2)
abbrev mask : FVec Ideal S32x64x1 .f32 := V0 (Proc.devRef .tc main_arg4)

/-- The difference of the first, of the second coordinates. -/
def rx : EReal := pos V0 (ix3 b j 0) - pos V0 (ix3 b i 0)
def ry : EReal := pos V0 (ix3 b j 1) - pos V0 (ix3 b i 1)

/-- The distance, the pair's weight, the position among the directions. -/
def dd : EReal := Pair.dist (rx V0 b i j) (ry V0 b i j)
def ww : EReal := Pair.window (dd V0 b i j) * mask V0 (ix3 b j 0)
def ss : EReal := Pair.angle (rx V0 b i j) (ry V0 b i j) * ((33554432/13176795 : ℝ) : EReal)

theorem v6_at (u : Fin 2) : (res_main_v6 V0 (ix4 b i j u) : EReal) = pos V0 (ix3 b j u) - pos V0 (ix3 b i u) := by
  unfold res_main_v6 pos
  pointwise

/-- The square of the distance, as the reference sums it. -/
abbrev n2 : EReal := res_main_v8 V0 (ix3 b i j)
abbrev rel (u : Fin 2) : EReal := res_main_v6 V0 (ix4 b i j u)

theorem v8_at : (res_main_v8 V0 (ix3 b i j) : EReal) = Pair.sq (rx V0 b i j) (ry V0 b i j) := by
  have h : n2 V0 b i j = ∑ u : Fin 2, rel V0 b i j u * rel V0 b i j u := by
    unfold n2 rel res_main_v8
    pointwise
  refine h.trans ?_
  rw [Fin.sum_univ_two]
  unfold rel
  rw [v6_at, v6_at]
  rfl

theorem v13_at : (res_main_v13 V0 (ix3 b i j) : EReal) = dd V0 b i j := by
  unfold dd Pair.dist
  rw [← v8_at]
  unfold res_main_v13
  pointwise

theorem v27_at : (res_main_v27 V0 (ix3 b i j) : EReal) = max (1 - dd V0 b i j * dd V0 b i j) 0 := by
  rw [← v13_at, max_comm]
  unfold res_main_v27
  dsimp only [id]
  pointwise

theorem v32_at : (res_main_v32 V0 (ix3 b i j) : EReal) = Pair.rpos (dd V0 b i j) := by
  unfold Pair.rpos
  rw [← v13_at]
  unfold res_main_v32
  dsimp only [id]
  pointwise

theorem zero_word : (FloatOps.sitofp (F := Ideal) .f32 0#32 : EReal) = 0 := by
  show (((0#32).toInt : ℝ) : EReal) = 0
  simp

theorem v34_at : (res_main_v34 V0 (ix3 b i j) : EReal) = Pair.r0 (dd V0 b i j) := by
  unfold Pair.r0
  rw [← v32_at]
  unfold res_main_v34
  pointwise
  rw [zero_word]
  rfl

theorem v36_at : (res_main_v36 V0 (ix3 b i j) : EReal) = Pair.wr (dd V0 b i j) := by
  unfold Pair.wr
  rw [← v34_at, ← v32_at]
  unfold res_main_v36
  dsimp only [id]
  pointwise

theorem v37_at : res_main_v37 V0 (ix3 b i j) = (FloatOps.fptosi (F := Ideal) (φ := .f32) 32 (Pair.r0 (dd V0 b i j))) := by
  rw [← v34_at]
  rfl

theorem v54_at : (res_main_v54 V0 (ix3 b i j) : EReal) = ss V0 b i j := by
  unfold ss
  rw [← Pair.sectors, ← Pair.angle_mod, ← Pair.select_sign]
  unfold Pair.angle0
  rw [← v8_at, rx, ry, ← v6_at, ← v6_at]
  unfold Pair.twoPi res_main_v54 res_main_call2_v2 res_main_call2_v0 res_main_v15
  dsimp only [id]
  pointwise

/-- The divisors of the remainders are sixteen. -/
theorem divisor9 : res_main_call9_v2 V0 ix0 = 16#32 := rfl
theorem divisor11 : res_main_call11_v2 V0 ix0 = 16#32 := rfl

theorem v56_at : (res_main_v56 V0 (ix3 b i j) : EReal) = Pair.wt (ss V0 b i j) := by
  unfold Pair.wt
  rw [← v54_at]
  unfold res_main_v56 res_main_v55
  pointwise

theorem v58_at : res_main_v58 V0 (ix3 b i j) = Pair.t0 (ss V0 b i j) := by
  unfold Pair.t0
  rw [← v54_at, ← Pair.mod16_host]
  unfold res_main_v58 res_main_call9_v4 res_main_v55
  pointwise
  simp only [divisor9]

theorem v81_at : (res_main_v81 V0 (ix3 b i j) : EReal) = ww V0 b i j := by
  unfold ww Pair.window
  rw [← v27_at]
  refine Eq.trans ?_ (congrArg (· * mask V0 (ix3 b j 0)) (mul_assoc (G := EReal) _ _ _))
  unfold res_main_v81 mask
  pointwise

theorem v85_at : (res_main_v85 V0 (ix2 b i) : EReal) = ∑ j : Fin 64, ww V0 b i j := by
  simp only [← v81_at]
  unfold res_main_v85
  pointwise

theorem v84_at (r : Fin 3) (t : Fin 16) : (res_main_v84 V0 (ix5 b i j r t) : EReal)
    = Pair.rcoef (dd V0 b i j) (ww V0 b i j) r * Pair.tcoef (ss V0 b i j) t := by
  rw [← Pair.coef_eq, ← v36_at, ← v37_at, ← v81_at]
  unfold Pair.tcoef Pair.t1
  rw [← v58_at, ← v56_at, ← Pair.mod16_host]
  simp only [← Pair.hot_mul]
  unfold res_main_v84 res_main_call11_v4
  pointwise
  simp only [divisor11]

end Cert.Proof.Ref

end
-- ==== Proof.Host.lean ====
/-
  What the kernel's seven operands hold when it starts: the host's tables as functions of the arguments.
-/
module

public import proofs.«01_k».proof.Proof.Step
public import Idealize.ShloMosaic.Lib.StableHlo.Run

@[expose] public section

set_option maxRecDepth 16384

noncomputable section

open Idealize.ShloMosaic Idealize.ShloMosaic.TcCoe Idealize.SL.Sem
open Cert.KernelIdeal Cert.KernelIdeal.Gen

namespace Cert.Proof.Host

/-- The first factor of the weights' table: 1 where Y = (t - 2m) mod 16. -/
def tabS : FVec Ideal S16x16x8 .f32 := fun i => FloatOps.ofBits FTy.f32 (lit0 (S16x16x8.rowMajor i))
/-- The second factor: 1 where X = (k - m) mod 8. -/
def tabT : FVec Ideal S8x8x8 .f32 := fun i => FloatOps.ofBits FTy.f32 (lit1 (S8x8x8.rowMajor i))
/-- The second factor once more, for layer 2. -/
def tabT2 : FVec Ideal S8x8x8 .bf16 := fun i => FloatOps.ofBits FTy.bf16 (lit2 (S8x8x8.rowMajor i))
/-- The second factor once more, for layer 3. -/
def tabT3 : FVec Ideal S8x8x8 .bf16 := fun i => FloatOps.ofBits FTy.bf16 (lit3 (S8x8x8.rowMajor i))
/-- The table of layer 1: the turns by the angles of orientation m where Y = (t - 2m) mod 16. -/
def tabH : FVec Ideal S16x2x16x8x2 .f32 := fun i => FloatOps.ofBits FTy.f32 (lit4 (S16x2x16x8x2.rowMajor i))
/-- The table of the dense product of layer 1: the directions of the sums m + s. -/
def tabR : FVec Ideal S2x8x8 .f32 := fun i => FloatOps.ofBits FTy.f32 (lit5 (S2x8x8.rowMajor i))

/-- The weights of layer 2 or 3 as the kernel's table. -/
def wz (w : FVec Ideal S16x16x3x16x8 .f32) : FVec Ideal S128x6144 .bf16 :=
  shapeCast S128x6144 (truncf .bf16 (transpose S16x8x3x16x16x8 [4, 1, 5, 0, 3, 2]
    (Host.dotGeneral dot_S16x8x16x8x8_S16x16x3x16x8_S16x8x8x16x16x3_10_43_234_012_n_n none
      (truncf .bf16 (mulf
        (broadcastInDim S16x8x16x8x8 ![0, 1, 2, 3, 4] bcast_S16x1x16x1x8_S16x8x16x8x8_0_1_2_3_4
          (broadcastInDim S16x1x16x1x8 ![0, 2, 4] bcast_S16x16x8_S16x1x16x1x8_0_2_4 tabS))
        (broadcastInDim S16x8x16x8x8 ![0, 1, 2, 3, 4] bcast_S1x8x1x8x8_S16x8x16x8x8_0_1_2_3_4
          (broadcastInDim S1x8x1x8x8 ![1, 3, 4] bcast_S8x8x8_S1x8x1x8x8_1_3_4 tabT))) bitsLt_bf16_f32)
      (truncf .bf16 w bitsLt_bf16_f32)) transposes_S16x8x8x16x16x3_S16x8x3x16x16x8_4_1_5_0_3_2) bitsLt_bf16_f32)
    shapeCasts_S16x8x3x16x16x8_S128x6144

/-- The dense weights of layer 2 or 3 as the kernel's table. -/
def wl (t : FVec Ideal S8x8x8 .bf16) (w : FVec Ideal S16x16x8 .f32) : FVec Ideal S128x128 .bf16 :=
  shapeCast S128x128 (truncf .bf16 (transpose S16x8x16x8 [3, 0, 2, 1]
    (Host.dotGeneral dot_S8x8x8_S16x16x8_S8x8x16x16_0_2_12_01_n_n none t (truncf .bf16 w bitsLt_bf16_f32))
    transposes_S8x8x16x16_S16x8x16x8_3_0_2_1) bitsLt_bf16_f32) shapeCasts_S16x8x16x8_S128x128

/-- The weights of layer 1 as the kernel's table. -/
def wz1 (w : FVec Ideal S8x19x3x16x2 .f32) : FVec Ideal S38x3072 .bf16 :=
  shapeCast S38x3072 (truncf .bf16 (transpose S19x2x3x16x8x8 [4, 2, 5, 0, 3, 1]
    (Host.dotGeneral dot_S16x2x16x8x2_S8x19x3x16x2_S16x8x2x8x19x3_01_34_234_012_n_n none (truncf .bf16 tabH bitsLt_bf16_f32)
      (truncf .bf16 w bitsLt_bf16_f32)) transposes_S16x8x2x8x19x3_S19x2x3x16x8x8_4_2_5_0_3_1) bitsLt_bf16_f32)
    shapeCasts_S19x2x3x16x8x8_S38x3072

/-- The dense weights of layer 1 as the kernel's table. -/
def wl1 (w : FVec Ideal S8x19x8 .f32) : FVec Ideal S38x64 .bf16 :=
  shapeCast S38x64 (truncf .bf16 (transpose S19x2x8x8 [3, 0, 2, 1]
    (Host.dotGeneral dot_S2x8x8_S8x19x8_S2x8x8x19_2_2_01_01_n_n none (truncf .bf16 tabR bitsLt_bf16_f32)
      (truncf .bf16 w bitsLt_bf16_f32)) transposes_S2x8x8x19_S19x2x8x8_3_0_2_1) bitsLt_bf16_f32)
    shapeCasts_S19x2x8x8_S38x64

/-- The features: the velocities, then the encoded velocities. -/
def feats (v0 : FVec Ideal S32x64x2 .f32) (ve : FVec Ideal S32x64x18x2 .f32) : FVec Ideal S32x64x38 .f32 :=
  shapeCast S32x64x38 (concatenate S32x64x19x2 2 [⟨S32x64x1x2, broadcastInDim S32x64x1x2 ![0, 1, 3] bcast_S32x64x2_S32x64x1x2_0_1_3 v0⟩,
    ⟨S32x64x18x2, ve⟩] concatenates_S32x64x1x2_S32x64x18x2_S32x64x19x2_d2) shapeCasts_S32x64x19x2_S32x64x38

/-- The positions and the mask, as rows. -/
def aux (p : FVec Ideal S32x64x2 .f32) (k : FVec Ideal S32x64x1 .f32) : FVec Ideal S32x8x64 .f32 :=
  concatenate S32x8x64 1 [⟨S32x1x64, broadcastInDim S32x1x64 ![0, 2] bcast_S32x64_S32x1x64_0_2
      (shapeCast S32x64 (extractStridedSlice S32x64x1 ![0, 0, 0] p slices_S32x64x2_S32x64x1_0_0_0) shapeCasts_S32x64x1_S32x64)⟩,
    ⟨S32x1x64, broadcastInDim S32x1x64 ![0, 2] bcast_S32x64_S32x1x64_0_2
      (shapeCast S32x64 (extractStridedSlice S32x64x1 ![0, 0, 1] p slices_S32x64x2_S32x64x1_0_0_1) shapeCasts_S32x64x1_S32x64)⟩,
    ⟨S32x1x64, transpose S32x1x64 [0, 2, 1] k transposes_S32x64x1_S32x1x64_0_2_1⟩,
    ⟨S32x5x64, broadcastInDim S32x5x64 ![] bcast_S_S32x5x64 (constant S_ .f32 0x00000000#32)⟩] concatenates_S32x1x64_S32x1x64_S32x1x64_S32x5x64_S32x8x64_d1

section
variable (m : (ℓ : Loc nD τ sig) → Buf (Elt Ideal) ℓ) (c : Dev nD)

theorem v16_eq : V m c main_v16 = concatenate S256x6144 0 [⟨S128x6144, wz (m ((c.tc : Thread nD τ).loc main_arg7))⟩,
    ⟨S128x6144, wz (m ((c.tc : Thread nD τ).loc main_arg9))⟩] concatenates_S128x6144_S128x6144_S256x6144_d0 := by
  unfold_abbrev_sides
  after_results
  rfl

theorem v27_eq : V m c main_v27 = concatenate S256x128 0 [⟨S128x128, wl tabT2 (m ((c.tc : Thread nD τ).loc main_arg8))⟩,
    ⟨S128x128, wl tabT3 (m ((c.tc : Thread nD τ).loc main_arg10))⟩] concatenates_S128x128_S128x128_S256x128_d0 := by
  unfold_abbrev_sides
  after_results
  rfl

theorem v33_eq : V m c main_v33 = wz1 (m ((c.tc : Thread nD τ).loc main_arg5)) := by
  unfold_abbrev_sides
  after_results
  rfl

theorem v39_eq : V m c main_v39 = wl1 (m ((c.tc : Thread nD τ).loc main_arg6)) := by
  unfold_abbrev_sides
  after_results
  rfl

theorem v42_eq : V m c main_v42 = feats (m ((c.tc : Thread nD τ).loc main_arg3)) (m ((c.tc : Thread nD τ).loc main_arg1)) := by
  unfold_abbrev_sides
  after_results
  rfl

/-- The last two host operations: the rows set upon each other, and their transpose. -/
theorem last_two (X : Valuation τ sig (Elt Ideal)) :
    StableHlo.after (hostOps0.drop 58) X (Proc.devRef .tc main_v51)
      = concatenate S32x8x64 1 [⟨S32x1x64, X (Proc.devRef .tc main_v45)⟩, ⟨S32x1x64, X (Proc.devRef .tc main_v48)⟩,
        ⟨S32x1x64, X (Proc.devRef .tc main_v49)⟩, ⟨S32x5x64, X (Proc.devRef .tc main_v50)⟩]
        concatenates_S32x1x64_S32x1x64_S32x1x64_S32x5x64_S32x8x64_d1 := by
  simp only [hostOps0, List.drop]
  after_results
  rfl

theorem v51_eq : V m c main_v51 = aux (m ((c.tc : Thread nD τ).loc main_arg2)) (m ((c.tc : Thread nD τ).loc main_arg4)) := by
  have h : V m c main_v51 = StableHlo.after (hostOps0.drop 58) (StableHlo.after (hostOps0.take 58) (fun b => m (c, b))) (Proc.devRef .tc main_v51) := by
    rw [← StableHlo.after_append, List.take_append_drop]
  rw [h, last_two]
  simp only [hostOps0, List.take]
  after_results
  rfl

/-- The last host operation transposes the rows. -/
theorem last_one (X : Valuation τ sig (Elt Ideal)) :
    StableHlo.after (hostOps0.drop 59) X (Proc.devRef .tc main_v52)
      = transpose S32x64x8 [0, 2, 1] (X (Proc.devRef .tc main_v51)) transposes_S32x8x64_S32x64x8_0_2_1 := by
  simp only [hostOps0, List.drop]
  after_results

theorem last_keeps (X : Valuation τ sig (Elt Ideal)) :
    StableHlo.after (hostOps0.drop 59) X (Proc.devRef .tc main_v51) = X (Proc.devRef .tc main_v51) := by
  simp only [hostOps0, List.drop]
  after_results

theorem v52_eq : V m c main_v52 = transpose S32x64x8 [0, 2, 1]
    (aux (m ((c.tc : Thread nD τ).loc main_arg2)) (m ((c.tc : Thread nD τ).loc main_arg4))) transposes_S32x8x64_S32x64x8_0_2_1 := by
  have h (b) : V m c b = StableHlo.after (hostOps0.drop 59) (StableHlo.after (hostOps0.take 59) (fun b => m (c, b))) (Proc.devRef .tc b) := by
    rw [← StableHlo.after_append, List.take_append_drop]
  rw [← v51_eq, h, h, last_one, last_keeps]

end

end Cert.Proof.Host

end
-- ==== Proof.Tables.lean ====
/-
  The kernel's operands at an index, as sums over the arguments.
-/
module

public import proofs.«01_k».proof.Proof.Host

@[expose] public section

set_option maxRecDepth 16384

noncomputable section

open Idealize.ShloMosaic Idealize.ShloMosaic.TcCoe Idealize.SL.Sem
open Cert.KernelIdeal Cert.KernelIdeal.Gen

namespace Cert.Proof.Host

/-- A float32 word whose exponent is not the highest is a real number. -/
theorem real_of_word (b : BitVec 32) (h : (b.extractLsb' 23 8).toNat ≠ 255) : ∃ r : ℝ, Ideal.ofBits FTy.f32 b = (r : EReal) := by
  have h' : ¬ (b.extractLsb' 23 8).toNat = 2 ^ 8 - 1 := h
  show ∃ r : ℝ, Ideal.ieee 8 23 b = (r : EReal)
  dsimp only [Ideal.ieee]
  rw [if_neg h']
  by_cases h2 : (b.extractLsb' 23 8).toNat = 0
  · rw [if_pos h2]; exact ⟨_, rfl⟩
  · rw [if_neg h2]; exact ⟨_, rfl⟩

/-- Minus zero is zero. -/
theorem neg_zero_word : Ideal.ofBits FTy.f32 0x80000000#32 = 0 := by simp [Ideal.ofBits, Ideal.ieee]

theorem zero_word : Ideal.ofBits FTy.f32 0x00000000#32 = 0 := by simp [Ideal.ofBits, Ideal.ieee]

/-- The places of ones in the two tables of zeros and ones. -/
theorem tabS_word : ∀ (Y t : Fin 16) (m : Fin 8), lit0 (S16x16x8.rowMajor (ix3 Y t m))
    = if Y = ⟨(t.val + 16 - 2 * m.val) % 16, Nat.mod_lt _ (by decide)⟩ then 0x3F800000#32 else 0x00000000#32 := by
  decide +kernel

theorem tabT_word : ∀ X k m : Fin 8, lit1 (S8x8x8.rowMajor (ix3 X k m))
    = if X = ⟨(k.val + 8 - m.val) % 8, Nat.mod_lt _ (by decide)⟩ then 0x3F800000#32 else 0x00000000#32 := by
  decide +kernel

theorem tabT2_word : ∀ X k m : Fin 8, lit2 (S8x8x8.rowMajor (ix3 X k m))
    = if X = ⟨(k.val + 8 - m.val) % 8, Nat.mod_lt _ (by decide)⟩ then 0x3F80#16 else 0x0000#16 := by
  decide +kernel

theorem tabT3_word : ∀ X k m : Fin 8, lit3 (S8x8x8.rowMajor (ix3 X k m))
    = if X = ⟨(k.val + 8 - m.val) % 8, Nat.mod_lt _ (by decide)⟩ then 0x3F80#16 else 0x0000#16 := by
  decide +kernel

theorem tabS_at (Y t : Fin 16) (m : Fin 8) :
    tabS (ix3 Y t m) = if Y = ⟨(t.val + 16 - 2 * m.val) % 16, Nat.mod_lt _ (by decide)⟩ then 1 else 0 := by
  unfold tabS
  rw [tabS_word]
  split <;> simp [FloatOps.ofBits]

theorem tabT_at (X k m : Fin 8) :
    tabT (ix3 X k m) = if X = ⟨(k.val + 8 - m.val) % 8, Nat.mod_lt _ (by decide)⟩ then 1 else 0 := by
  unfold tabT
  rw [tabT_word]
  split <;> simp [FloatOps.ofBits]

theorem tabT2_at (X k m : Fin 8) :
    tabT2 (ix3 X k m) = if X = ⟨(k.val + 8 - m.val) % 8, Nat.mod_lt _ (by decide)⟩ then 1 else 0 := by
  unfold tabT2
  rw [tabT2_word]
  split <;> simp [FloatOps.ofBits]

theorem tabT3_at (X k m : Fin 8) :
    tabT3 (ix3 X k m) = if X = ⟨(k.val + 8 - m.val) % 8, Nat.mod_lt _ (by decide)⟩ then 1 else 0 := by
  unfold tabT3
  rw [tabT3_word]
  split <;> simp [FloatOps.ofBits]

/-- The words of the turn by the angle of orientation `m`: its row `s`, its column `u`. -/
def turnWord (m : Fin 8) (s u : Fin 2) : BitVec 32 :=
  if s = 0 then (if u = 0 then Cert.ReferenceIdeal.lit0 m else Cert.ReferenceIdeal.lit1 m)
  else (if u = 0 then Cert.ReferenceIdeal.lit2 m else Cert.ReferenceIdeal.lit0 m)

/-- The words of the direction number `n`. -/
def dirWord (u : Fin 2) (n : Fin 15) : BitVec 32 := if u = 0 then Cert.ReferenceIdeal.lit4 n else Cert.ReferenceIdeal.lit5 n

/-- The turn by the angle of orientation `m`. -/
def turn (m : Fin 8) (s u : Fin 2) : EReal := Ideal.ofBits FTy.f32 (turnWord m s u)

/-- The direction number `n`. -/
def dir (u : Fin 2) (n : Fin 15) : EReal := Ideal.ofBits FTy.f32 (dirWord u n)

theorem turn_real (m : Fin 8) (s u : Fin 2) : ∃ r : ℝ, turn m s u = (r : EReal) :=
  real_of_word _ ((by decide +kernel : ∀ (m : Fin 8) (s u : Fin 2), ((turnWord m s u).extractLsb' 23 8).toNat ≠ 255) m s u)

theorem dir_real (u : Fin 2) (n : Fin 15) : ∃ r : ℝ, dir u n = (r : EReal) :=
  real_of_word _ ((by decide +kernel : ∀ (u : Fin 2) (n : Fin 15), ((dirWord u n).extractLsb' 23 8).toNat ≠ 255) u n)

theorem tabH_word : ∀ (Y : Fin 16) (s : Fin 2) (t : Fin 16) (m : Fin 8) (u : Fin 2),
    if Y = ⟨(t.val + 16 - 2 * m.val) % 16, Nat.mod_lt _ (by decide)⟩ then
      lit4 (S16x2x16x8x2.rowMajor (ix5 Y s t m u)) = turnWord m s u
        ∨ (lit4 (S16x2x16x8x2.rowMajor (ix5 Y s t m u)) = 0x00000000#32 ∧ turnWord m s u = 0x80000000#32)
    else lit4 (S16x2x16x8x2.rowMajor (ix5 Y s t m u)) = 0x00000000#32 ∨ lit4 (S16x2x16x8x2.rowMajor (ix5 Y s t m u)) = 0x80000000#32 := by
  decide +kernel

theorem tabH_at (Y : Fin 16) (s : Fin 2) (t : Fin 16) (m : Fin 8) (u : Fin 2) :
    tabH (ix5 Y s t m u) = if Y = ⟨(t.val + 16 - 2 * m.val) % 16, Nat.mod_lt _ (by decide)⟩ then turn m s u else 0 := by
  have h := tabH_word Y s t m u
  unfold tabH turn
  show Ideal.ofBits FTy.f32 _ = _
  split at h
  · rename_i e
    rw [if_pos e]
    rcases h with h | ⟨h, h'⟩
    · rw [h]
    · rw [h, h', zero_word, neg_zero_word]
  · rename_i e
    rw [if_neg e]
    rcases h with h | h
    · rw [h, zero_word]
    · rw [h, neg_zero_word]

theorem tabR_word : ∀ (u : Fin 2) (m s : Fin 8), lit5 (S2x8x8.rowMajor (ix3 u m s)) = dirWord u ⟨m.val + s.val, by omega⟩ := by
  decide +kernel

theorem tabR_at (u : Fin 2) (m s : Fin 8) : tabR (ix3 u m s) = dir u ⟨m.val + s.val, by omega⟩ := by
  unfold tabR dir
  show Ideal.ofBits FTy.f32 _ = _
  rw [tabR_word]

/-- The table of the weights of layer 2 or 3: the weight whose direction and orientation are turned back by `m`. -/
theorem wz_at (w : FVec Ideal S16x16x3x16x8 .f32) (i : Fin 16) (k : Fin 8) (r : Fin 3) (u o : Fin 16) (m : Fin 8) :
    wz w (ix2 ⟨i.val * 8 + k.val, by omega⟩ ⟨(r.val * 16 + u.val) * 128 + (o.val * 8 + m.val), by omega⟩)
      = w (ix5 o i r ⟨(u.val + 16 - 2 * m.val) % 16, Nat.mod_lt _ (by decide)⟩ ⟨(k.val + 8 - m.val) % 8, Nat.mod_lt _ (by decide)⟩) := by
  have key : ∀ (p : Fin 128) (q : Fin 6144), wz w (ix2 p q) = ∑ X : Fin 8, ∑ Y : Fin 16,
      tabS (ix3 Y ⟨q.val / 128 % 16, by omega⟩ ⟨q.val % 8, by omega⟩) * tabT (ix3 X ⟨p.val % 8, by omega⟩ ⟨q.val % 8, by omega⟩)
        * w (ix5 ⟨q.val / 8 % 16, by omega⟩ ⟨p.val / 8, by omega⟩ ⟨q.val / 2048, by omega⟩ Y X) := by
    intro p q
    unfold wz
    pointwise
  rw [key]
  have e1 : ((r.val * 16 + u.val) * 128 + (o.val * 8 + m.val)) / 128 % 16 = u.val := by omega
  have e2 : ((r.val * 16 + u.val) * 128 + (o.val * 8 + m.val)) % 8 = m.val := by omega
  have e3 : ((r.val * 16 + u.val) * 128 + (o.val * 8 + m.val)) / 8 % 16 = o.val := by omega
  have e4 : ((r.val * 16 + u.val) * 128 + (o.val * 8 + m.val)) / 2048 = r.val := by omega
  have e5 : (i.val * 8 + k.val) % 8 = k.val := by omega
  have e6 : (i.val * 8 + k.val) / 8 = i.val := by omega
  simp only [e1, e2, e3, e4, e5, e6, Fin.eta, tabS_at, tabT_at, ite_mul, one_mul, zero_mul, Finset.sum_ite_eq', Finset.sum_ite_eq, Finset.mem_univ, if_true]

/-- The dense table of layer 2 or 3, for either copy of the table of ones. -/
theorem wl_at (t : FVec Ideal S8x8x8 .bf16) (ht : ∀ X k m : Fin 8, t (ix3 X k m) = if X = ⟨(k.val + 8 - m.val) % 8, Nat.mod_lt _ (by decide)⟩ then 1 else 0)
    (w : FVec Ideal S16x16x8 .f32) (i : Fin 16) (k : Fin 8) (o : Fin 16) (m : Fin 8) :
    wl t w (ix2 ⟨i.val * 8 + k.val, by omega⟩ ⟨o.val * 8 + m.val, by omega⟩)
      = w (ix3 o i ⟨(k.val + 8 - m.val) % 8, Nat.mod_lt _ (by decide)⟩) := by
  have key : ∀ p q : Fin 128, wl t w (ix2 p q) = ∑ X : Fin 8, t (ix3 X ⟨p.val % 8, by omega⟩ ⟨q.val % 8, by omega⟩)
      * w (ix3 ⟨q.val / 8, by omega⟩ ⟨p.val / 8, by omega⟩ X) := by
    intro p q
    unfold wl
    pointwise
  rw [key]
  have e2 : (o.val * 8 + m.val) % 8 = m.val := by omega
  have e3 : (o.val * 8 + m.val) / 8 = o.val := by omega
  have e5 : (i.val * 8 + k.val) % 8 = k.val := by omega
  have e6 : (i.val * 8 + k.val) / 8 = i.val := by omega
  simp only [e2, e3, e5, e6, Fin.eta, ht, ite_mul, one_mul, zero_mul, Finset.sum_ite_eq', Finset.sum_ite_eq, Finset.mem_univ, if_true]

/-- The table of layer 1: the weights whose direction is turned back by `m`, on the turned vectors. -/
theorem wz1_at (w : FVec Ideal S8x19x3x16x2 .f32) (i : Fin 19) (u : Fin 2) (r : Fin 3) (t : Fin 16) (o m : Fin 8) :
    wz1 w (ix2 ⟨i.val * 2 + u.val, by omega⟩ ⟨(r.val * 16 + t.val) * 64 + (o.val * 8 + m.val), by omega⟩)
      = ∑ s : Fin 2, turn m s u * w (ix5 o i r ⟨(t.val + 16 - 2 * m.val) % 16, Nat.mod_lt _ (by decide)⟩ s) := by
  have key : ∀ (p : Fin 38) (q : Fin 3072), wz1 w (ix2 p q) = ∑ Y : Fin 16, ∑ s : Fin 2,
      tabH (ix5 Y s ⟨q.val / 64 % 16, by omega⟩ ⟨q.val % 8, by omega⟩ ⟨p.val % 2, by omega⟩)
        * w (ix5 ⟨q.val / 8 % 8, by omega⟩ ⟨p.val / 2, by omega⟩ ⟨q.val / 1024, by omega⟩ Y s) := by
    intro p q
    unfold wz1
    pointwise
  rw [key, Finset.sum_comm]
  have e1 : ((r.val * 16 + t.val) * 64 + (o.val * 8 + m.val)) / 64 % 16 = t.val := by omega
  have e2 : ((r.val * 16 + t.val) * 64 + (o.val * 8 + m.val)) % 8 = m.val := by omega
  have e3 : ((r.val * 16 + t.val) * 64 + (o.val * 8 + m.val)) / 8 % 8 = o.val := by omega
  have e4 : ((r.val * 16 + t.val) * 64 + (o.val * 8 + m.val)) / 1024 = r.val := by omega
  have e5 : (i.val * 2 + u.val) % 2 = u.val := by omega
  have e6 : (i.val * 2 + u.val) / 2 = i.val := by omega
  simp only [e1, e2, e3, e4, e5, e6, Fin.eta, tabH_at, ite_mul, zero_mul, Finset.sum_ite_eq', Finset.sum_ite_eq, Finset.mem_univ, if_true]

/-- The dense table of layer 1: the weights on the components in the directions `m + s`. -/
theorem wl1_at (w : FVec Ideal S8x19x8 .f32) (i : Fin 19) (u : Fin 2) (o m : Fin 8) :
    wl1 w (ix2 ⟨i.val * 2 + u.val, by omega⟩ ⟨o.val * 8 + m.val, by omega⟩)
      = ∑ s : Fin 8, dir u ⟨m.val + s.val, by omega⟩ * w (ix3 o i s) := by
  have key : ∀ (p : Fin 38) (q : Fin 64), wl1 w (ix2 p q) = ∑ s : Fin 8, tabR (ix3 ⟨p.val % 2, by omega⟩ ⟨q.val % 8, by omega⟩ s)
      * w (ix3 ⟨q.val / 8, by omega⟩ ⟨p.val / 2, by omega⟩ s) := by
    intro p q
    unfold wl1
    pointwise
  rw [key]
  have e2 : (o.val * 8 + m.val) % 8 = m.val := by omega
  have e3 : (o.val * 8 + m.val) / 8 = o.val := by omega
  have e5 : (i.val * 2 + u.val) % 2 = u.val := by omega
  have e6 : (i.val * 2 + u.val) / 2 = i.val := by omega
  simp only [e2, e3, e5, e6, Fin.eta, tabR_at]

/-- The vector number `i` of object `j`: its velocity, then its encoded velocities. -/
def vecs (v0 : FVec Ideal S32x64x2 .f32) (ve : FVec Ideal S32x64x18x2 .f32) (b : Fin 32) (j : Fin 64) (i : Fin 19) (u : Fin 2) : EReal :=
  if h : i.val < 1 then v0 (ix3 b j u) else ve (ix4 b j ⟨i.val - 1, by omega⟩ u)

theorem feats_at (v0 : FVec Ideal S32x64x2 .f32) (ve : FVec Ideal S32x64x18x2 .f32) (b : Fin 32) (j : Fin 64) (i : Fin 19) (u : Fin 2) :
    feats v0 ve (ix3 b j ⟨i.val * 2 + u.val, by omega⟩) = vecs v0 ve b j i u := by
  have key : ∀ p : Fin 38, feats v0 ve (ix3 b j p)
      = if h : p.val / 2 < 1 then v0 (ix3 b j ⟨p.val % 2, by omega⟩) else ve (ix4 b j ⟨p.val / 2 - 1, by omega⟩ ⟨p.val % 2, by omega⟩) := by
    intro p
    unfold feats
    pointwise
  rw [key]
  have e5 : (i.val * 2 + u.val) % 2 = u.val := by omega
  have e6 : (i.val * 2 + u.val) / 2 = i.val := by omega
  simp only [e5, e6, Fin.eta, vecs]

theorem aux_x (p : FVec Ideal S32x64x2 .f32) (k : FVec Ideal S32x64x1 .f32) (b : Fin 32) (j : Fin 64) :
    aux p k (ix3 b 0 j) = p (ix3 b j 0) := by
  unfold aux
  pointwise

theorem aux_y (p : FVec Ideal S32x64x2 .f32) (k : FVec Ideal S32x64x1 .f32) (b : Fin 32) (j : Fin 64) :
    aux p k (ix3 b 1 j) = p (ix3 b j 1) := by
  unfold aux
  pointwise

theorem aux_mask (p : FVec Ideal S32x64x2 .f32) (k : FVec Ideal S32x64x1 .f32) (b : Fin 32) (j : Fin 64) :
    aux p k (ix3 b 2 j) = k (ix3 b j 0) := by
  unfold aux
  pointwise

end Cert.Proof.Host

end
-- ==== Proof.RefLayers.lean ====
/-
  The reference's layers at an index: sums over the neighbours, the radii, the directions, the inputs and the orientations.
-/
module

public import proofs.«01_k».proof.Proof.RefPair
public import proofs.«01_k».proof.Proof.Tables

@[expose] public section

set_option maxRecDepth 16384

noncomputable section

open Idealize.ShloMosaic Idealize.ShloMosaic.TcCoe Idealize.SL.Sem
open Cert.ReferenceIdeal Cert.ReferenceIdeal.Gen Cert.ReferenceIdeal.Value

namespace Cert.Proof.Ref
variable (V0 : Valuation τ sig (Elt Ideal)) (b : Fin 32) (i j : Fin 64)

/-- The coefficient of neighbour `j`, radius `r` and direction `t` at object `i`. -/
def cf (r : Fin 3) (t : Fin 16) : EReal := Pair.rcoef (dd V0 b i j) (ww V0 b i j) r * Pair.tcoef (ss V0 b i j) t

/-- What the convolution's sum is divided by. -/
def nn : EReal := (∑ j : Fin 64, ww V0 b i j) + Ideal.ofBits FTy.f32 0x322BCC77#32

/-- The coefficients at the shifted directions. -/
def shiftT : FVec Ideal S32x64x64x3x8x16 .f32 :=
  Host.gather gather_S32x64x64x3x16_S8x16x1_S32x64x64x3x8x16_0123_4_n_n_4_2_32646431 (res_main_v84 V0) (broadcastInDim S8x16x1 ![0, 1] bcast_S8x16_S8x16x1_0_1 (res_main_c V0))

theorem shiftT_at (r : Fin 3) (m : Fin 8) (t : Fin 16) :
    shiftT V0 (ix6 b i j r m t) = cf V0 b i j r ⟨(t.val + 2 * m.val) % 16, Nat.mod_lt _ (by decide)⟩ :=
  (shift_dir _ _ _ _ _ _ _).trans (v84_at V0 b i j r _)

/-- The convolution of layer 2 or 3, as the reference writes it. -/
def convT (xs : FVec Ideal S32x64x16x8x8 .f32) (W : FVec Ideal S16x16x3x16x8 .f32) : FVec Ideal S32x64x16x8 .f32 :=
  Host.divf (transpose S32x64x16x8 [0, 3, 2, 1] (Host.dotGeneral dot_S32x64x16x8x3x16_S32x64x64x3x8x16_S32x8x16x64_145_235_2_1_03_04 none (transpose S32x64x16x8x3x16 [0, 1, 3, 2, 4, 5] (Host.dotGeneral dot_S32x64x16x8x8_S16x16x3x16x8_S32x64x8x16x3x16_24_14_013_023_n_n none xs W) transposes_S32x64x8x16x3x16_S32x64x16x8x3x16_0_1_3_2_4_5) (shiftT V0)) transposes_S32x8x16x64_S32x64x16x8_0_3_2_1) (broadcastInDim S32x64x16x8 ![0, 1, 2, 3] bcast_S32x64x1x1_S32x64x16x8_0_1_2_3 (addf (broadcastInDim S32x64x1x1 ![0, 1] bcast_S32x64_S32x64x1x1_0_1 (res_main_v85 V0)) (broadcastInDim S32x64x1x1 ![] bcast_S_S32x64x1x1 (constant S_ .f32 0x322BCC77#32))))

/-- The dense product of layer 2 or 3. -/
def linT (xs : FVec Ideal S32x64x16x8x8 .f32) (W : FVec Ideal S16x16x8 .f32) : FVec Ideal S32x64x16x8 .f32 :=
  transpose S32x64x16x8 [0, 1, 3, 2] (Host.dotGeneral dot_S32x64x16x8x8_S16x16x8_S32x64x8x16_24_12_013_0_n_n none xs W) transposes_S32x64x8x16_S32x64x16x8_0_1_3_2

/-- The convolution of layer 1. -/
def conv8T (xs : FVec Ideal S32x64x19x8x2 .f32) (W : FVec Ideal S8x19x3x16x2 .f32) : FVec Ideal S32x64x8x8 .f32 :=
  Host.divf (transpose S32x64x8x8 [0, 3, 2, 1] (Host.dotGeneral dot_S32x64x8x8x3x16_S32x64x64x3x8x16_S32x8x8x64_145_235_2_1_03_04 none (transpose S32x64x8x8x3x16 [0, 1, 3, 2, 4, 5] (Host.dotGeneral dot_S32x64x19x8x2_S8x19x3x16x2_S32x64x8x8x3x16_24_14_013_023_n_n none xs W) transposes_S32x64x8x8x3x16_S32x64x8x8x3x16_0_1_3_2_4_5) (shiftT V0)) transposes_S32x8x8x64_S32x64x8x8_0_3_2_1) (broadcastInDim S32x64x8x8 ![0, 1, 2, 3] bcast_S32x64x1x1_S32x64x8x8_0_1_2_3 (addf (broadcastInDim S32x64x1x1 ![0, 1] bcast_S32x64_S32x64x1x1_0_1 (res_main_v85 V0)) (broadcastInDim S32x64x1x1 ![] bcast_S_S32x64x1x1 (constant S_ .f32 0x322BCC77#32))))

/-- The dense product of layer 1. -/
def lin8T (xs : FVec Ideal S32x64x19x8x8 .f32) (W : FVec Ideal S8x19x8 .f32) : FVec Ideal S32x64x8x8 .f32 :=
  transpose S32x64x8x8 [0, 1, 3, 2] (Host.dotGeneral dot_S32x64x19x8x8_S8x19x8_S32x64x8x8_24_12_013_0_n_n none xs W) transposes_S32x64x8x8_S32x64x8x8_0_1_3_2

/-- The turned vectors. -/
def turnT : FVec Ideal S32x64x19x8x2 .f32 :=
  concatenate S32x64x19x8x2 4 [⟨S32x64x19x8x1, (broadcastInDim S32x64x19x8x1 ![0, 1, 2, 3] bcast_S32x64x19x8_S32x64x19x8x1_0_1_2_3 (addf (mulf (broadcastInDim S32x64x19x8 ![0, 1, 2, 3] bcast_S1x1x1x8_S32x64x19x8_0_1_2_3 (broadcastInDim S1x1x1x8 ![3] bcast_S8_S1x1x1x8_3 (res_main_cst V0))) (broadcastInDim S32x64x19x8 ![0, 1, 2, 3] bcast_S32x64x19x1_S32x64x19x8_0_1_2_3 (res_main_v86 V0))) (mulf (broadcastInDim S32x64x19x8 ![0, 1, 2, 3] bcast_S1x1x1x8_S32x64x19x8_0_1_2_3 (broadcastInDim S1x1x1x8 ![3] bcast_S8_S1x1x1x8_3 ((fun i => FloatOps.ofBits .f32 (lit1 (S8.rowMajor i)))))) (broadcastInDim S32x64x19x8 ![0, 1, 2, 3] bcast_S32x64x19x1_S32x64x19x8_0_1_2_3 (res_main_v87 V0)))))⟩, ⟨S32x64x19x8x1, (broadcastInDim S32x64x19x8x1 ![0, 1, 2, 3] bcast_S32x64x19x8_S32x64x19x8x1_0_1_2_3 (addf (mulf (broadcastInDim S32x64x19x8 ![0, 1, 2, 3] bcast_S1x1x1x8_S32x64x19x8_0_1_2_3 (broadcastInDim S1x1x1x8 ![3] bcast_S8_S1x1x1x8_3 ((fun i => FloatOps.ofBits .f32 (lit2 (S8.rowMajor i)))))) (broadcastInDim S32x64x19x8 ![0, 1, 2, 3] bcast_S32x64x19x1_S32x64x19x8_0_1_2_3 (res_main_v86 V0))) (mulf (broadcastInDim S32x64x19x8 ![0, 1, 2, 3] bcast_S1x1x1x8_S32x64x19x8_0_1_2_3 (broadcastInDim S1x1x1x8 ![3] bcast_S8_S1x1x1x8_3 (res_main_cst V0))) (broadcastInDim S32x64x19x8 ![0, 1, 2, 3] bcast_S32x64x19x1_S32x64x19x8_0_1_2_3 (res_main_v87 V0)))))⟩] concatenates_S32x64x19x8x1_S32x64x19x8x1_S32x64x19x8x2_d4

/-- The components in fifteen directions. -/
def liftT : FVec Ideal S32x64x19x15 .f32 :=
  addf (mulf (broadcastInDim S32x64x19x15 ![0, 1, 2, 3] bcast_S32x64x19x1_S32x64x19x15_0_1_2_3 (extractStridedSlice S32x64x19x1 ![0, 0, 0, 0] (res_main_v1 V0) slices_S32x64x19x2_S32x64x19x1_0_0_0_0)) (broadcastInDim S32x64x19x15 ![0, 1, 2, 3] bcast_S1x1x1x15_S32x64x19x15_0_1_2_3 (broadcastInDim S1x1x1x15 ![3] bcast_S15_S1x1x1x15_3 ((fun i => FloatOps.ofBits .f32 (lit4 (S15.rowMajor i))))))) (mulf (broadcastInDim S32x64x19x15 ![0, 1, 2, 3] bcast_S32x64x19x1_S32x64x19x15_0_1_2_3 (extractStridedSlice S32x64x19x1 ![0, 0, 0, 1] (res_main_v1 V0) slices_S32x64x19x2_S32x64x19x1_0_0_0_1)) (broadcastInDim S32x64x19x15 ![0, 1, 2, 3] bcast_S1x1x1x15_S32x64x19x15_0_1_2_3 (broadcastInDim S1x1x1x15 ![3] bcast_S15_S1x1x1x15_3 ((fun i => FloatOps.ofBits .f32 (lit5 (S15.rowMajor i)))))))

/-- The components in the directions `m + s`. -/
def sumT : FVec Ideal S32x64x19x8x8 .f32 :=
  Host.gather gather_S32x64x19x15_S8x8x1_S32x64x19x8x8_012_3_n_n_3_2_3264191 (liftT V0) (broadcastInDim S8x8x1 ![0, 1] bcast_S8x8_S8x8x1_0_1 ((fun i => lit6 (S8x8.rowMajor i))))

theorem v133_eq : res_main_v133 V0 = concatenate S32x64x16x8 2 [⟨S32x64x8x8, conv8T V0 (turnT V0) (V0 (Proc.devRef .tc main_arg5))⟩,
    ⟨S32x64x8x8, lin8T (sumT V0) (V0 (Proc.devRef .tc main_arg6))⟩] concatenates_S32x64x8x8_S32x64x8x8_S32x64x16x8_d2 := rfl

theorem v150_eq : res_main_v150 V0 = addf (F := Ideal) (φ := .f32) (addf (F := Ideal) (φ := .f32) (convT V0 (res_main_v136 V0) (V0 (Proc.devRef .tc main_arg7)))
    (linT (res_main_v136 V0) (V0 (Proc.devRef .tc main_arg8)))) (res_main_v133 V0) := rfl

theorem convT_at (xs : FVec Ideal S32x64x16x8x8 .f32) (W : FVec Ideal S16x16x3x16x8 .f32) (o : Fin 16) (m : Fin 8) :
    convT V0 xs W (ix4 b i o m) = Ideal.div (∑ j : Fin 64, ∑ r : Fin 3, ∑ t : Fin 16,
      (∑ i' : Fin 16, ∑ s : Fin 8, xs (ix5 b j i' m s) * W (ix5 o i' r t s)) * cf V0 b i j r ⟨(t.val + 2 * m.val) % 16, Nat.mod_lt _ (by decide)⟩)
      (nn V0 b i) := by
  unfold nn
  simp only [← shiftT_at]
  rw [← v85_at]
  have h (y) (z) : Ideal.matmul dot_S32x64x16x8x3x16_S32x64x64x3x8x16_S32x8x16x64_145_235_2_1_03_04 y z (fun _ => 0) (ix4 b m o i) = _ := dot16 y z b m o i
  unfold convT
  pointwise
  rw [h]
  pointwise

theorem linT_at (xs : FVec Ideal S32x64x16x8x8 .f32) (W : FVec Ideal S16x16x8 .f32) (o : Fin 16) (m : Fin 8) :
    linT xs W (ix4 b i o m) = ∑ i' : Fin 16, ∑ s : Fin 8, xs (ix5 b i i' m s) * W (ix3 o i' s) := by
  unfold linT
  pointwise

theorem conv8T_at (xs : FVec Ideal S32x64x19x8x2 .f32) (W : FVec Ideal S8x19x3x16x2 .f32) (o : Fin 8) (m : Fin 8) :
    conv8T V0 xs W (ix4 b i o m) = Ideal.div (∑ j : Fin 64, ∑ r : Fin 3, ∑ t : Fin 16,
      (∑ i' : Fin 19, ∑ s : Fin 2, xs (ix5 b j i' m s) * W (ix5 o i' r t s)) * cf V0 b i j r ⟨(t.val + 2 * m.val) % 16, Nat.mod_lt _ (by decide)⟩)
      (nn V0 b i) := by
  unfold nn
  simp only [← shiftT_at]
  rw [← v85_at]
  have h (y) (z) : Ideal.matmul dot_S32x64x8x8x3x16_S32x64x64x3x8x16_S32x8x8x64_145_235_2_1_03_04 y z (fun _ => 0) (ix4 b m o i) = _ := dot8 y z b m o i
  unfold conv8T
  pointwise
  rw [h]
  pointwise

theorem lin8T_at (xs : FVec Ideal S32x64x19x8x8 .f32) (W : FVec Ideal S8x19x8 .f32) (o : Fin 8) (m : Fin 8) :
    lin8T xs W (ix4 b i o m) = ∑ i' : Fin 19, ∑ s : Fin 8, xs (ix5 b i i' m s) * W (ix3 o i' s) := by
  unfold lin8T
  pointwise

/-- The vectors of the features. -/
abbrev vv (b : Fin 32) (j : Fin 64) (i' : Fin 19) (u : Fin 2) : EReal :=
  Host.vecs (V0 (Proc.devRef .tc main_arg3)) (V0 (Proc.devRef .tc main_arg1)) b j i' u

theorem v1_at (i' : Fin 19) (u : Fin 2) : (res_main_v1 V0 (ix4 b j i' u) : EReal) = vv V0 b j i' u := by
  unfold res_main_v1 vv Host.vecs
  pointwise

theorem v86_at (i' : Fin 19) : (res_main_v86 V0 (ix4 b j i' 0) : EReal) = vv V0 b j i' 0 := by
  rw [← v1_at]
  unfold res_main_v86
  pointwise

theorem v87_at (i' : Fin 19) : (res_main_v87 V0 (ix4 b j i' 0) : EReal) = vv V0 b j i' 1 := by
  rw [← v1_at]
  unfold res_main_v87
  pointwise

theorem cos_word : ∀ m : Fin 8, lit0 (S8.rowMajor (ix1 m)) = lit0 m := by decide +kernel
theorem sin_word : ∀ m : Fin 8, lit1 (S8.rowMajor (ix1 m)) = lit1 m := by decide +kernel
theorem nsin_word : ∀ m : Fin 8, lit2 (S8.rowMajor (ix1 m)) = lit2 m := by decide +kernel
theorem dx_word : ∀ n : Fin 15, lit4 (S15.rowMajor (ix1 n)) = lit4 n := by decide +kernel
theorem dy_word : ∀ n : Fin 15, lit5 (S15.rowMajor (ix1 n)) = lit5 n := by decide +kernel

theorem turnT_at0 (i' : Fin 19) (m : Fin 8) : turnT V0 (ix5 b j i' m 0)
    = Host.turn m 0 0 * vv V0 b j i' 0 + Host.turn m 0 1 * vv V0 b j i' 1 := by
  rw [← v86_at, ← v87_at]
  unfold turnT res_main_cst
  pointwise
  rw [cos_word, sin_word]
  rfl

theorem turnT_at1 (i' : Fin 19) (m : Fin 8) : turnT V0 (ix5 b j i' m 1)
    = Host.turn m 1 0 * vv V0 b j i' 0 + Host.turn m 1 1 * vv V0 b j i' 1 := by
  rw [← v86_at, ← v87_at]
  unfold turnT res_main_cst
  pointwise
  rw [nsin_word, cos_word]
  rfl

theorem liftT_at (i' : Fin 19) (n : Fin 15) : liftT V0 (ix4 b j i' n)
    = vv V0 b j i' 0 * Host.dir 0 n + vv V0 b j i' 1 * Host.dir 1 n := by
  rw [← v1_at, ← v1_at]
  unfold liftT
  pointwise
  rw [dx_word, dy_word]
  rfl

theorem sumT_at (i' : Fin 19) (m s : Fin 8) : sumT V0 (ix5 b j i' m s)
    = vv V0 b j i' 0 * Host.dir 0 ⟨m.val + s.val, by omega⟩ + vv V0 b j i' 1 * Host.dir 1 ⟨m.val + s.val, by omega⟩ := by
  rw [← liftT_at]
  exact shift_sum _ _ _ _ _ _

end Cert.Proof.Ref

end
-- ==== Proof.RefOut.lean ====
/-
  The reference's three layers and its result at an index.
-/
module

public import proofs.«01_k».proof.Proof.RefLayers

@[expose] public section

set_option maxRecDepth 16384

noncomputable section

open Idealize.ShloMosaic Idealize.ShloMosaic.TcCoe Idealize.SL.Sem
open Cert.ReferenceIdeal Cert.ReferenceIdeal.Gen Cert.ReferenceIdeal.Value

namespace Cert.Proof.Ref
variable (V0 : Valuation τ sig (Elt Ideal)) (b : Fin 32) (i j : Fin 64)

/-- What layer 1 leaves. -/
abbrev h1 (o : Fin 16) (m : Fin 8) : EReal := res_main_v133 V0 (ix4 b i o m)
/-- What layer 2 leaves. -/
abbrev h2 (o : Fin 16) (m : Fin 8) : EReal := res_main_v150 V0 (ix4 b i o m)

/-- The convolution of layer 2 or 3 of the values `h` with the weights `W`, before its division. -/
def cs (h : Fin 64 → Fin 16 → Fin 8 → EReal) (W : FVec Ideal S16x16x3x16x8 .f32) (o : Fin 16) (m : Fin 8) : EReal :=
  ∑ j : Fin 64, ∑ r : Fin 3, ∑ t : Fin 16,
    (∑ i' : Fin 16, ∑ s : Fin 8, max (h j i' ⟨(s.val + m.val) % 8, Nat.mod_lt _ (by decide)⟩) 0 * W (ix5 o i' r t s))
      * cf V0 b i j r ⟨(t.val + 2 * m.val) % 16, Nat.mod_lt _ (by decide)⟩

/-- The dense product of layer 2 or 3 of the values `h` with the weights `W`. -/
def ds (h : Fin 16 → Fin 8 → EReal) (W : FVec Ideal S16x16x8 .f32) (o : Fin 16) (m : Fin 8) : EReal :=
  ∑ i' : Fin 16, ∑ s : Fin 8, max (h i' ⟨(s.val + m.val) % 8, Nat.mod_lt _ (by decide)⟩) 0 * W (ix3 o i' s)

theorem v133_lo (o m : Fin 8) : h1 V0 b i ⟨o.val, by omega⟩ m = conv8T V0 (turnT V0) (V0 (Proc.devRef .tc main_arg5)) (ix4 b i o m) := by
  unfold h1
  rw [v133_eq]
  generalize conv8T V0 (turnT V0) (V0 (Proc.devRef .tc main_arg5)) = A
  generalize lin8T (sumT V0) (V0 (Proc.devRef .tc main_arg6)) = B
  pointwise

theorem v133_hi (o m : Fin 8) : h1 V0 b i ⟨8 + o.val, by omega⟩ m = lin8T (sumT V0) (V0 (Proc.devRef .tc main_arg6)) (ix4 b i o m) := by
  unfold h1
  rw [v133_eq]
  generalize conv8T V0 (turnT V0) (V0 (Proc.devRef .tc main_arg5)) = A
  generalize lin8T (sumT V0) (V0 (Proc.devRef .tc main_arg6)) = B
  pointwise

theorem v136_at (i' : Fin 16) (m s : Fin 8) : (res_main_v136 V0 (ix5 b i i' m s) : EReal)
    = max (h1 V0 b i i' ⟨(s.val + m.val) % 8, Nat.mod_lt _ (by decide)⟩) 0 := by
  unfold res_main_v136 res_main_c_5 h1
  refine (shift_rot _ _ _ _ _ _).trans ?_
  generalize res_main_v133 V0 = A
  pointwise

theorem v153_at (i' : Fin 16) (m s : Fin 8) : (res_main_v153 V0 (ix5 b i i' m s) : EReal)
    = max (h2 V0 b i i' ⟨(s.val + m.val) % 8, Nat.mod_lt _ (by decide)⟩) 0 := by
  unfold res_main_v153 res_main_c_5 h2
  refine (shift_rot _ _ _ _ _ _).trans ?_
  generalize res_main_v150 V0 = A
  pointwise

/-- Layer 2. -/
theorem v150_at (o : Fin 16) (m : Fin 8) : h2 V0 b i o m
    = Ideal.div (cs V0 b i (fun j => h1 V0 b j) (V0 (Proc.devRef .tc main_arg7)) o m) (nn V0 b i)
      + ds (h1 V0 b i) (V0 (Proc.devRef .tc main_arg8)) o m + h1 V0 b i o m := by
  unfold h2 cs ds
  simp only [← v136_at]
  rw [← convT_at, ← linT_at, v150_eq]
  rfl

/-- The result, as the reference writes it. -/
def outT : FVec Ideal S32x64x128 .f32 :=
  shapeCast _ (maximumf (F := Ideal) (φ := .f32) (addf (F := Ideal) (φ := .f32) (addf (F := Ideal) (φ := .f32)
    (convT V0 (res_main_v153 V0) (V0 (Proc.devRef .tc main_arg9))) (linT (res_main_v153 V0) (V0 (Proc.devRef .tc main_arg10)))) (res_main_v150 V0))
    (broadcastInDim S32x64x16x8 ![] bcast_S_S32x64x16x8 (constant S_ .f32 0x00000000#32))) shapeCasts_S32x64x16x8_S32x64x128

/-- The result: layer 3, and what is below zero made zero. -/
theorem outT_at (o : Fin 16) (m : Fin 8) : outT V0 (ix3 b i ⟨o.val * 8 + m.val, by omega⟩)
    = max (Ideal.div (cs V0 b i (fun j => h2 V0 b j) (V0 (Proc.devRef .tc main_arg9)) o m) (nn V0 b i)
      + ds (h2 V0 b i) (V0 (Proc.devRef .tc main_arg10)) o m + h2 V0 b i o m) 0 := by
  unfold cs ds
  simp only [← v153_at]
  rw [← convT_at, ← linT_at]
  unfold outT h2
  generalize convT V0 (res_main_v153 V0) (V0 (Proc.devRef .tc main_arg9)) = A
  generalize linT (res_main_v153 V0) (V0 (Proc.devRef .tc main_arg10)) = B
  generalize res_main_v150 V0 = C
  pointwise

end Cert.Proof.Ref

end
-- ==== Proof.Sums.lean ====
/-
  Sums over the directions and the orientations: each may be started at any of its members; and, of real numbers, a factor
  may be moved into a sum.
-/
module

public import proofs.«01_k».proof.Proof.Step

@[expose] public section

noncomputable section

namespace Cert.Proof.Sums

/-- The turn of the eight orientations by `m`. -/
def turn8 (m : Fin 8) : Fin 8 ≃ Fin 8 where
  toFun s := ⟨(s.val + m.val) % 8, Nat.mod_lt _ (by decide)⟩
  invFun k := ⟨(k.val + 8 - m.val) % 8, Nat.mod_lt _ (by decide)⟩
  left_inv s := Fin.ext (by dsimp only; omega)
  right_inv k := Fin.ext (by dsimp only; omega)

/-- The turn of the sixteen directions by `2 m`. -/
def turn16 (m : Fin 8) : Fin 16 ≃ Fin 16 where
  toFun s := ⟨(s.val + 2 * m.val) % 16, Nat.mod_lt _ (by decide)⟩
  invFun k := ⟨(k.val + 16 - 2 * m.val) % 16, Nat.mod_lt _ (by decide)⟩
  left_inv s := Fin.ext (by dsimp only; omega)
  right_inv k := Fin.ext (by dsimp only; omega)

/-- A sum over the orientations, each weighed by the one `m` before it. -/
theorem sum_turn8 (m : Fin 8) (h w : Fin 8 → EReal) :
    ∑ k : Fin 8, h k * w ⟨(k.val + 8 - m.val) % 8, Nat.mod_lt _ (by decide)⟩
      = ∑ s : Fin 8, h ⟨(s.val + m.val) % 8, Nat.mod_lt _ (by decide)⟩ * w s := by
  refine ((turn8 m).sum_comp (fun k => h k * w ((turn8 m).symm k))).symm.trans ?_
  refine Finset.sum_congr rfl fun s _ => ?_
  rw [Equiv.symm_apply_apply]
  rfl

/-- The sum of a convolution in the kernel's order and in the reference's. -/
theorem conv_order (m : Fin 8) (a : Fin 3 → Fin 64 → EReal) (t : Fin 16 → Fin 64 → EReal) (Z : Fin 64 → Fin 3 → Fin 16 → EReal) :
    ∑ r : Fin 3, ∑ u : Fin 16, ∑ j : Fin 64, a r j * t u j * Z j r ⟨(u.val + 16 - 2 * m.val) % 16, Nat.mod_lt _ (by decide)⟩
      = ∑ j : Fin 64, ∑ r : Fin 3, ∑ v : Fin 16, Z j r v * (a r j * t ⟨(v.val + 2 * m.val) % 16, Nat.mod_lt _ (by decide)⟩ j) := by
  refine ((Finset.sum_congr rfl fun r _ => Finset.sum_comm).trans Finset.sum_comm).trans ?_
  refine Finset.sum_congr rfl fun j _ => Finset.sum_congr rfl fun r _ => ?_
  refine ((turn16 m).sum_comp (fun u => a r j * t u j * Z j r ((turn16 m).symm u))).symm.trans ?_
  refine Finset.sum_congr rfl fun v _ => ?_
  rw [Equiv.symm_apply_apply, mul_comm]
  rfl

/-- A sum over the 128 columns, by output and orientation. -/
theorem sum128 (f : Fin 128 → EReal) : ∑ p, f p = ∑ i : Fin 16, ∑ k : Fin 8, f ⟨i.val * 8 + k.val, by omega⟩ := by
  rw [← (finProdFinEquiv (m := 16) (n := 8)).sum_comp f, Fintype.sum_prod_type]
  refine Finset.sum_congr rfl fun i _ => Finset.sum_congr rfl fun k _ => congrArg f (Fin.ext ?_)
  show k.val + 8 * i.val = i.val * 8 + k.val
  omega

/-- A sum over the 38 components, by vector and coordinate. -/
theorem sum38 (f : Fin 38 → EReal) : ∑ p, f p = ∑ i : Fin 19, ∑ k : Fin 2, f ⟨i.val * 2 + k.val, by omega⟩ := by
  rw [← (finProdFinEquiv (m := 19) (n := 2)).sum_comp f, Fintype.sum_prod_type]
  refine Finset.sum_congr rfl fun i _ => Finset.sum_congr rfl fun k _ => congrArg f (Fin.ext ?_)
  show k.val + 2 * i.val = i.val * 2 + k.val
  omega

/-- A sum of real numbers is the same among the extended ones. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- Of real numbers: a vector times turned weights is the turned vector times the weights. -/
theorem move_turn {n : ℕ} (v : Fin 2 → EReal) (w : Fin n → EReal) (g : Fin n → Fin 2 → EReal)
    (hv : ∀ u, ∃ x : ℝ, v u = x) (hw : ∀ s, ∃ x : ℝ, w s = x) (hg : ∀ s u, ∃ x : ℝ, g s u = x) :
    ∑ u : Fin 2, v u * ∑ s : Fin n, g s u * w s = ∑ s : Fin n, (g s 0 * v 0 + g s 1 * v 1) * w s := by
  choose v' hv using hv
  choose w' hw using hw
  choose g' hg using hg
  simp only [hv, hw, hg, ← EReal.coe_mul, ← EReal.coe_add, ← coe_sum]
  refine congrArg Real.toEReal ?_
  rw [Fin.sum_univ_two, Finset.mul_sum, Finset.mul_sum, ← Finset.sum_add_distrib]
  exact Finset.sum_congr rfl fun s _ => by ring

end Cert.Proof.Sums

end
-- ==== Proof.Match.lean ====
/-
  The equation for one scene: when the kernel's blocks hold what the reference's arguments give for scene `b`, each of the
  kernel's three layers is the reference's.
-/
module

public import proofs.«01_k».proof.Proof.Planes
public import proofs.«01_k».proof.Proof.PairMath
public import proofs.«01_k».proof.Proof.RefOut
public import proofs.«01_k».proof.Proof.Sums

@[expose] public section

set_option maxRecDepth 16384

noncomputable section

open Idealize.ShloMosaic Idealize.ShloMosaic.TcCoe Idealize.SL.Sem
open Cert.KernelIdeal Cert.KernelIdeal.Gen

namespace Cert.Proof.Match

/-- The reference's arguments. -/
abbrev RV := Valuation Cert.ReferenceIdeal.τ Cert.ReferenceIdeal.sig (Elt Ideal)

section
variable (V0 : RV)
abbrev W1 : FVec Ideal S8x19x3x16x2 .f32 := V0 (Proc.devRef .tc Cert.ReferenceIdeal.main_arg5)
abbrev D1 : FVec Ideal S8x19x8 .f32 := V0 (Proc.devRef .tc Cert.ReferenceIdeal.main_arg6)
abbrev W2 : FVec Ideal S16x16x3x16x8 .f32 := V0 (Proc.devRef .tc Cert.ReferenceIdeal.main_arg7)
abbrev D2 : FVec Ideal S16x16x8 .f32 := V0 (Proc.devRef .tc Cert.ReferenceIdeal.main_arg8)
abbrev W3 : FVec Ideal S16x16x3x16x8 .f32 := V0 (Proc.devRef .tc Cert.ReferenceIdeal.main_arg9)
abbrev D3 : FVec Ideal S16x16x8 .f32 := V0 (Proc.devRef .tc Cert.ReferenceIdeal.main_arg10)
end

/-- What the kernel's blocks hold for scene `b`, and what is asked of the arguments: masks of at least zero, and real numbers for
    the vectors and the weights of layer 1. -/
structure Scene (V0 : RV) (b : Fin 32) (x0 : FVec Ideal S1x8x64 .f32) (x1 : FVec Ideal S1x64x8 .f32) (x2 : FVec Ideal S1x64x38 .f32)
    (x3 : FVec Ideal S38x3072 .bf16) (x4 : FVec Ideal S38x64 .bf16) (x5 : FVec Ideal S256x6144 .bf16) (x6 : FVec Ideal S256x128 .bf16) : Prop where
  px : ∀ j : Fin 64, x0 (ix3 0 0 j) = Ref.pos V0 (ix3 b j 0)
  py : ∀ j : Fin 64, x0 (ix3 0 1 j) = Ref.pos V0 (ix3 b j 1)
  pk : ∀ j : Fin 64, x0 (ix3 0 2 j) = Ref.mask V0 (ix3 b j 0)
  qx : ∀ i : Fin 64, x1 (ix3 0 i 0) = Ref.pos V0 (ix3 b i 0)
  qy : ∀ i : Fin 64, x1 (ix3 0 i 1) = Ref.pos V0 (ix3 b i 1)
  fv : ∀ (j : Fin 64) (i : Fin 19) (u : Fin 2), x2 (ix3 0 j ⟨i.val * 2 + u.val, by omega⟩) = Ref.vv V0 b j i u
  c1 : ∀ (i : Fin 19) (u : Fin 2) (r : Fin 3) (t : Fin 16) (o m : Fin 8),
    x3 (ix2 ⟨i.val * 2 + u.val, by omega⟩ ⟨(r.val * 16 + t.val) * 64 + (o.val * 8 + m.val), by omega⟩)
      = ∑ s : Fin 2, Host.turn m s u * W1 V0 (ix5 o i r ⟨(t.val + 16 - 2 * m.val) % 16, Nat.mod_lt _ (by decide)⟩ s)
  d1 : ∀ (i : Fin 19) (u : Fin 2) (o m : Fin 8),
    x4 (ix2 ⟨i.val * 2 + u.val, by omega⟩ ⟨o.val * 8 + m.val, by omega⟩) = ∑ s : Fin 8, Host.dir u ⟨m.val + s.val, by omega⟩ * D1 V0 (ix3 o i s)
  c2 : ∀ (i : Fin 16) (k : Fin 8) (r : Fin 3) (u o : Fin 16) (m : Fin 8),
    x5 (ix2 ⟨i.val * 8 + k.val, by omega⟩ ⟨(r.val * 16 + u.val) * 128 + (o.val * 8 + m.val), by omega⟩)
      = W2 V0 (ix5 o i r ⟨(u.val + 16 - 2 * m.val) % 16, Nat.mod_lt _ (by decide)⟩ ⟨(k.val + 8 - m.val) % 8, Nat.mod_lt _ (by decide)⟩)
  c3 : ∀ (i : Fin 16) (k : Fin 8) (r : Fin 3) (u o : Fin 16) (m : Fin 8),
    x5 (ix2 ⟨128 + (i.val * 8 + k.val), by omega⟩ ⟨(r.val * 16 + u.val) * 128 + (o.val * 8 + m.val), by omega⟩)
      = W3 V0 (ix5 o i r ⟨(u.val + 16 - 2 * m.val) % 16, Nat.mod_lt _ (by decide)⟩ ⟨(k.val + 8 - m.val) % 8, Nat.mod_lt _ (by decide)⟩)
  d2 : ∀ (i : Fin 16) (k : Fin 8) (o : Fin 16) (m : Fin 8),
    x6 (ix2 ⟨i.val * 8 + k.val, by omega⟩ ⟨o.val * 8 + m.val, by omega⟩) = D2 V0 (ix3 o i ⟨(k.val + 8 - m.val) % 8, Nat.mod_lt _ (by decide)⟩)
  d3 : ∀ (i : Fin 16) (k : Fin 8) (o : Fin 16) (m : Fin 8),
    x6 (ix2 ⟨128 + (i.val * 8 + k.val), by omega⟩ ⟨o.val * 8 + m.val, by omega⟩) = D3 V0 (ix3 o i ⟨(k.val + 8 - m.val) % 8, Nat.mod_lt _ (by decide)⟩)
  mask_nonneg : ∀ j : Fin 64, 0 ≤ Ref.mask V0 (ix3 b j 0)
  vec_real : ∀ (j : Fin 64) (i : Fin 19) (u : Fin 2), ∃ x : ℝ, Ref.vv V0 b j i u = x
  w_real : ∀ i, ∃ x : ℝ, W1 V0 i = x
  d_real : ∀ i, ∃ x : ℝ, D1 V0 i = x

section
variable {V0 : RV} {b : Fin 32} {x0 : FVec Ideal S1x8x64 .f32} {x1 : FVec Ideal S1x64x8 .f32} {x2 : FVec Ideal S1x64x38 .f32}
  {x3 : FVec Ideal S38x3072 .bf16} {x4 : FVec Ideal S38x64 .bf16} {x5 : FVec Ideal S256x6144 .bf16} {x6 : FVec Ideal S256x128 .bf16}
  (S : Scene V0 b x0 x1 x2 x3 x4 x5 x6) (i : Fin 64)
include S

theorem dx_eq (j : Fin 64) : Step.dx x0 x1 i j = Ref.rx V0 b i j := by unfold Step.dx Ref.rx; rw [S.px, S.qx]
theorem dy_eq (j : Fin 64) : Step.dy x0 x1 i j = Ref.ry V0 b i j := by unfold Step.dy Ref.ry; rw [S.py, S.qy]
theorem dd_eq (j : Fin 64) : Step.dd x0 x1 i j = Ref.dd V0 b i j := by unfold Step.dd Ref.dd; rw [dx_eq S, dy_eq S]
theorem ww_eq (j : Fin 64) : Step.ww x0 x1 i j = Ref.ww V0 b i j := by unfold Step.ww Ref.ww; rw [dd_eq S, S.pk]
theorem ss_eq (j : Fin 64) : Step.ss x0 x1 i j = Ref.ss V0 b i j := by unfold Step.ss Ref.ss; rw [dx_eq S, dy_eq S]

/-- The kernel's inverse norm is 1 over what the reference divides by, which is above zero. -/
theorem inv_eq : k0_pay84 (F := Ideal) x0 x1 x2 x3 x4 x5 x6 (ix2 i 0) = Ideal.div 1 (Ref.nn V0 b i) := by
  rw [Step.inv_at]
  simp only [ww_eq S]
  rfl

theorem nn_ne : Ref.nn V0 b i ≠ 0 := by
  have h : 0 ≤ ∑ j : Fin 64, Ref.ww V0 b i j :=
    Finset.sum_nonneg fun j _ => mul_nonneg (Pair.window_nonneg _) (S.mask_nonneg j)
  exact (lt_of_lt_of_le Pair.eps_pos (le_add_of_nonneg_left h)).ne'

/-- A convolution: when the table's column for a radius and a direction is `Z` at that direction turned back by `2 m`, the kernel's
    sum times its inverse norm is the reference's quotient. -/
theorem conv_eq (z : Fin 64 → ℕ → EReal) (w c : ℕ) (m : Fin 8) (Z : Fin 64 → Fin 3 → Fin 16 → EReal)
    (hz : ∀ (j : Fin 64) (r : Fin 3) (u : Fin 16), z j ((r.val * 16 + u.val) * w + c)
      = Z j r ⟨(u.val + 16 - 2 * m.val) % 16, Nat.mod_lt _ (by decide)⟩) :
    Step.convSum (fun r j => Pair.rcoef (Step.dd x0 x1 i j) (Step.ww x0 x1 i j) r) (fun u j => Pair.tcoef (Step.ss x0 x1 i j) u) z w c
        * k0_pay84 (F := Ideal) x0 x1 x2 x3 x4 x5 x6 (ix2 i 0)
      = Ideal.div (∑ j : Fin 64, ∑ r : Fin 3, ∑ v : Fin 16,
          Z j r v * Ref.cf V0 b i j r ⟨(v.val + 2 * m.val) % 16, Nat.mod_lt _ (by decide)⟩) (Ref.nn V0 b i) := by
  rw [inv_eq S, Pair.mul_div_one _ _ (nn_ne S i)]
  unfold Step.convSum
  simp only [hz, dd_eq S, ww_eq S, ss_eq S]
  rw [Sums.conv_order m (fun r j => Pair.rcoef (Ref.dd V0 b i j) (Ref.ww V0 b i j) r) (fun u j => Pair.tcoef (Ref.ss V0 b i j) u) Z]
  rfl

theorem turned (j : Fin 64) (i' : Fin 19) (m : Fin 8) (s : Fin 2) : Ref.turnT V0 (ix5 b j i' m s)
    = Host.turn m s 0 * Ref.vv V0 b j i' 0 + Host.turn m s 1 * Ref.vv V0 b j i' 1 := by
  match s with
  | 0 => exact Ref.turnT_at0 V0 b j i' m
  | 1 => exact Ref.turnT_at1 V0 b j i' m

/-- The table of layer 1: the turned vectors times the weights. -/
theorem table1 (j : Fin 64) (r : Fin 3) (u : Fin 16) (o m : Fin 8) :
    Step.atCol (fun k => k0_pay104 (F := Ideal) x0 x1 x2 x3 x4 x5 x6 (ix2 j k)) ((r.val * 16 + u.val) * 64 + (o.val * 8 + m.val))
      = ∑ i' : Fin 19, ∑ s : Fin 2, Ref.turnT V0 (ix5 b j i' m s)
        * W1 V0 (ix5 o i' r ⟨(u.val + 16 - 2 * m.val) % 16, Nat.mod_lt _ (by decide)⟩ s) := by
  rw [Step.atCol_of_lt _ _ (by omega), Step.z1_at, Sums.sum38]
  refine Finset.sum_congr rfl fun i' _ => ?_
  simp only [S.fv, S.c1, turned S]
  exact Sums.move_turn (fun u => Ref.vv V0 b j i' u) _ (fun s u => Host.turn m s u) (fun u => S.vec_real j i' u) (fun s => S.w_real _)
    fun s u => Host.turn_real m s u

/-- The dense product of layer 1. -/
theorem dense1 (o m : Fin 8) : k0_pay105 (F := Ideal) x0 x1 x2 x3 x4 x5 x6 (ix2 i ⟨o.val * 8 + m.val, by omega⟩)
    = Ref.lin8T (Ref.sumT V0) (D1 V0) (ix4 b i o m) := by
  rw [Step.l1_at, Sums.sum38, Ref.lin8T_at]
  refine Finset.sum_congr rfl fun i' _ => ?_
  simp only [S.fv, S.d1, Ref.sumT_at]
  refine (Sums.move_turn (fun u => Ref.vv V0 b i i' u) (fun s => D1 V0 (ix3 o i' s)) (fun s u => Host.dir u ⟨m.val + s.val, by omega⟩)
    (fun u => S.vec_real i i' u) (fun s => S.d_real _) fun s u => Host.dir_real u _).trans ?_
  refine Finset.sum_congr rfl fun s _ => ?_
  rw [mul_comm (Host.dir 0 _), mul_comm (Host.dir 1 _)]

/-- Layer 1. -/
theorem layer1_eq (o : Fin 16) (m : Fin 8) :
    k0_pay109 (F := Ideal) x0 x1 x2 x3 x4 x5 x6 (ix2 i ⟨o.val * 8 + m.val, by omega⟩) = Ref.h1 V0 b i o m := by
  by_cases ho : o.val < 8
  · have e1 : (⟨o.val, by omega⟩ : Fin 16) = o := rfl
    have h := Ref.v133_lo V0 b i ⟨o.val, ho⟩ m
    rw [Ref.conv8T_at] at h
    refine Eq.trans ?_ h.symm
    refine (Step.layer1_conv x0 x1 x2 x3 x4 x5 x6 i ⟨o.val * 8 + m.val, by omega⟩ _ _ (Step.planes x0 x1 x2 x3 x4 x5 x6 i)).trans ?_
    exact conv_eq S i _ 64 (o.val * 8 + m.val) m _ fun j r u => table1 S j r u ⟨o.val, ho⟩ m
  · have e1 : (⟨8 + (o.val - 8), by omega⟩ : Fin 16) = o := Fin.ext (by dsimp only; omega)
    have e2 : (⟨o.val * 8 + m.val, by omega⟩ : Fin 128) = ⟨64 + ((o.val - 8) * 8 + m.val), by omega⟩ := Fin.ext (by dsimp only; omega)
    have h := Ref.v133_hi V0 b i ⟨o.val - 8, by omega⟩ m
    dsimp only at h
    rw [e1] at h
    rw [e2, h]
    refine (Step.layer1_dense x0 x1 x2 x3 x4 x5 x6 i ⟨(o.val - 8) * 8 + m.val, by omega⟩).trans ?_
    exact dense1 S i ⟨o.val - 8, by omega⟩ m

/-- Layer 2. -/
theorem layer2_eq (o : Fin 16) (m : Fin 8) :
    Step.out2 x0 x1 x2 x3 x4 x5 x6 (ix2 i ⟨o.val * 8 + m.val, by omega⟩) = Ref.h2 V0 b i o m := by
  rw [Ref.v150_at, Step.layer2 x0 x1 x2 x3 x4 x5 x6 i _ _ _ (Step.planes x0 x1 x2 x3 x4 x5 x6 i), layer1_eq S]
  refine congrArg (· + Ref.h1 V0 b i o m) (congr (congrArg HAdd.hAdd ?_) ?_)
  · refine conv_eq S i _ 128 (o.val * 8 + m.val) m (fun j r v => ∑ i' : Fin 16, ∑ s : Fin 8,
      max (Ref.h1 V0 b j i' ⟨(s.val + m.val) % 8, Nat.mod_lt _ (by decide)⟩) 0 * W2 V0 (ix5 o i' r v s)) fun j r u => ?_
    rw [Step.atCol_of_lt _ _ (by omega), Step.z2_at, Sums.sum128]
    refine Finset.sum_congr rfl fun i' _ => ?_
    simp only [layer1_eq S, S.c2]
    exact Sums.sum_turn8 m (fun k => max (Ref.h1 V0 b j i' k) 0) fun s => W2 V0 (ix5 o i' r _ s)
  · rw [Step.l2_at, Sums.sum128]
    refine Finset.sum_congr rfl fun i' _ => ?_
    simp only [layer1_eq S, S.d2]
    exact Sums.sum_turn8 m (fun k => max (Ref.h1 V0 b i i' k) 0) fun s => D2 V0 (ix3 o i' s)

/-- Layer 3: the result. -/
theorem layer3_eq (o : Fin 16) (m : Fin 8) :
    Step.out3 x0 x1 x2 x3 x4 x5 x6 (ix2 i ⟨o.val * 8 + m.val, by omega⟩) = Ref.outT V0 (ix3 b i ⟨o.val * 8 + m.val, by omega⟩) := by
  rw [Ref.outT_at, Step.layer3 x0 x1 x2 x3 x4 x5 x6 i _ _ _ (Step.planes x0 x1 x2 x3 x4 x5 x6 i), layer2_eq S]
  refine congrArg (max · 0) (congrArg (· + Ref.h2 V0 b i o m) (congr (congrArg HAdd.hAdd ?_) ?_))
  · refine conv_eq S i _ 128 (o.val * 8 + m.val) m (fun j r v => ∑ i' : Fin 16, ∑ s : Fin 8,
      max (Ref.h2 V0 b j i' ⟨(s.val + m.val) % 8, Nat.mod_lt _ (by decide)⟩) 0 * W3 V0 (ix5 o i' r v s)) fun j r u => ?_
    rw [Step.atCol_of_lt _ _ (by omega), Step.z3_at, Sums.sum128]
    refine Finset.sum_congr rfl fun i' _ => ?_
    simp only [layer2_eq S, S.c3]
    exact Sums.sum_turn8 m (fun k => max (Ref.h2 V0 b j i' k) 0) fun s => W3 V0 (ix5 o i' r _ s)
  · rw [Step.l3_at, Sums.sum128]
    refine Finset.sum_congr rfl fun i' _ => ?_
    simp only [layer2_eq S, S.d3]
    exact Sums.sum_turn8 m (fun k => max (Ref.h2 V0 b i i' k) 0) fun s => D3 V0 (ix3 o i' s)

end

end Cert.Proof.Match

end
-- ==== Proof.KernelRun.lean ====
/-
  What the kernel's result array holds: object `i` of scene `b` is what the three layers give on the blocks of that scene.
-/
module

public import proofs.«01_k».proof.Proof.Layers
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Proof.KernelRun

variable (m : (ℓ : Loc nD τ sig) → Buf (Elt Ideal) ℓ) (ρ : Dev nD → PrngReg) (c : Dev nD)

/-- Scene `b` of the positions and masks, by rows. -/
def bl0 (b : Fin 32) : FVec Ideal S1x8x64 .f32 := fun i => V m c main_v51 (ix3 b (i 1) (i 2))
/-- Scene `b` of the positions and masks, by columns. -/
def bl1 (b : Fin 32) : FVec Ideal S1x64x8 .f32 := fun i => V m c main_v52 (ix3 b (i 1) (i 2))
/-- Scene `b` of the vectors. -/
def bl2 (b : Fin 32) : FVec Ideal S1x64x38 .f32 := fun i => V m c main_v42 (ix3 b (i 1) (i 2))

/-- The scene of a grid point. -/
def scene (t : Fin cfg0.N) : Fin 32 := ⟨t.val, lt_of_lt_of_eq t.isLt N_0⟩

/-- Where the four windows that move stand at a point. -/
theorem at_point : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_7.index t 0 = t.val ∧ win0_7.index t 1 = 0 ∧ win0_7.index t 2 = 0) := by decide +kernel

/-- Where the four windows that stay stand. -/
theorem at_rest : ∀ t : Fin grid0.N,
    (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) := by decide +kernel

theorem iblk0 (t : Fin cfg0.N) : iblk m c 0 t = bl0 m c (scene t) := by
  have e := (at_point t).1
  funext i
  refine congrArg (V m c main_v51) (funext fun a => Fin.ext ?_)
  have h0 : (i 0).val = 0 := by have : (i 0).val < 1 := (i 0).isLt; omega
  match a with
  | ⟨0, _⟩ => show win0_0.index t 0 * 1 + 1 * (i 0).val = t.val; rw [e.1]; omega
  | ⟨1, _⟩ => show win0_0.index t 1 * 8 + 1 * (i 1).val = (i 1).val; rw [e.2.1]; omega
  | ⟨2, _⟩ => show win0_0.index t 2 * 64 + 1 * (i 2).val = (i 2).val; rw [e.2.2]; omega

theorem iblk1 (t : Fin cfg0.N) : iblk m c 1 t = bl1 m c (scene t) := by
  have e := (at_point t).2.1
  funext i
  refine congrArg (V m c main_v52) (funext fun a => Fin.ext ?_)
  have h0 : (i 0).val = 0 := by have : (i 0).val < 1 := (i 0).isLt; omega
  match a with
  | ⟨0, _⟩ => show win0_1.index t 0 * 1 + 1 * (i 0).val = t.val; rw [e.1]; omega
  | ⟨1, _⟩ => show win0_1.index t 1 * 64 + 1 * (i 1).val = (i 1).val; rw [e.2.1]; omega
  | ⟨2, _⟩ => show win0_1.index t 2 * 8 + 1 * (i 2).val = (i 2).val; rw [e.2.2]; omega

theorem iblk2 (t : Fin cfg0.N) : iblk m c 2 t = bl2 m c (scene t) := by
  have e := (at_point t).2.2.1
  funext i
  refine congrArg (V m c main_v42) (funext fun a => Fin.ext ?_)
  have h0 : (i 0).val = 0 := by have : (i 0).val < 1 := (i 0).isLt; omega
  match a with
  | ⟨0, _⟩ => show win0_2.index t 0 * 1 + 1 * (i 0).val = t.val; rw [e.1]; omega
  | ⟨1, _⟩ => show win0_2.index t 1 * 64 + 1 * (i 1).val = (i 1).val; rw [e.2.1]; omega
  | ⟨2, _⟩ => show win0_2.index t 2 * 38 + 1 * (i 2).val = (i 2).val; rw [e.2.2]; omega

theorem iblk3 (t : Fin cfg0.N) : iblk m c 3 t = V m c main_v33 := by
  have e := (at_rest t).1
  funext i
  refine congrArg (V m c main_v33) (funext fun a => Fin.ext ?_)
  match a with
  | ⟨0, _⟩ => show win0_3.index t 0 * 38 + 1 * (i 0).val = (i 0).val; rw [e.1]; omega
  | ⟨1, _⟩ => show win0_3.index t 1 * 3072 + 1 * (i 1).val = (i 1).val; rw [e.2]; omega

theorem iblk4 (t : Fin cfg0.N) : iblk m c 4 t = V m c main_v39 := by
  have e := (at_rest t).2.1
  funext i
  refine congrArg (V m c main_v39) (funext fun a => Fin.ext ?_)
  match a with
  | ⟨0, _⟩ => show win0_4.index t 0 * 38 + 1 * (i 0).val = (i 0).val; rw [e.1]; omega
  | ⟨1, _⟩ => show win0_4.index t 1 * 64 + 1 * (i 1).val = (i 1).val; rw [e.2]; omega

theorem iblk5 (t : Fin cfg0.N) : iblk m c 5 t = V m c main_v16 := by
  have e := (at_rest t).2.2.1
  funext i
  refine congrArg (V m c main_v16) (funext fun a => Fin.ext ?_)
  match a with
  | ⟨0, _⟩ => show win0_5.index t 0 * 256 + 1 * (i 0).val = (i 0).val; rw [e.1]; omega
  | ⟨1, _⟩ => show win0_5.index t 1 * 6144 + 1 * (i 1).val = (i 1).val; rw [e.2]; omega

theorem iblk6 (t : Fin cfg0.N) : iblk m c 6 t = V m c main_v27 := by
  have e := (at_rest t).2.2.2
  funext i
  refine congrArg (V m c main_v27) (funext fun a => Fin.ext ?_)
  match a with
  | ⟨0, _⟩ => show win0_6.index t 0 * 256 + 1 * (i 0).val = (i 0).val; rw [e.1]; omega
  | ⟨1, _⟩ => show win0_6.index t 1 * 128 + 1 * (i 1).val = (i 1).val; rw [e.2]; omega

/-- What one scene's point leaves. -/
def scn (b : Fin 32) : FVec Ideal S1x64x128 .f32 :=
  out0_7 (bl0 m c b) (bl1 m c b) (bl2 m c b) (V m c main_v33) (V m c main_v39) (V m c main_v16) (V m c main_v27)

/-- The whole result. -/
def res : FVec Ideal S32x64x128 .f32 := fun i => scn m c (i 0) (ix3 0 (i 1) (i 2))

/-- Of any family of scenes: scene `t`, cut for the write-back, is block `t` of the whole. -/
theorem cut_eq (f : Fin 32 → FVec Ideal S1x64x128 .f32) (t : Fin cfg0.N) :
    (cfg0.win 7).cut (grid0.coords t) (f (scene t))
      = (win0_7.blk t).view.read (Elt Ideal) (fun i => f (i 0) (ix3 0 (i 1) (i 2))) := by
  have e := (at_point t).2.2.2
  funext i
  have h0 : (i 0).val = 0 := by have : (i 0).val < 1 := (i 0).isLt; omega
  refine Eq.trans (b := f (scene t) (ix3 0 (i 1) (i 2))) ?_ (congrArg (fun y : S32x64x128.Idx => f (y 0) (ix3 0 (y 1) (y 2)))
    (show ix3 (scene t) (i 1) (i 2) = _ from funext fun a => Fin.ext ?_))
  · refine congrArg (f (scene t)) (funext fun a => Fin.ext ?_)
    match a with
    | ⟨0, _⟩ => exact h0
    | ⟨1, _⟩ => rfl
    | ⟨2, _⟩ => rfl
  · match a with
    | ⟨0, _⟩ => show t.val = win0_7.index t 0 * 1 + 1 * (i 0).val; rw [e.1]; omega
    | ⟨1, _⟩ => show (i 1).val = win0_7.index t 1 * 64 + 1 * (i 1).val; rw [e.2.1]; omega
    | ⟨2, _⟩ => show (i 2).val = win0_7.index t 2 * 128 + 1 * (i 2).val; rw [e.2.2]; omega

/-- What point `t` writes back is block `t` of the result. -/
theorem flushed_eq (t : Fin cfg0.N) :
    (dats m 0 c).flushed 7 t = (win0_7.blk t).view.read (Elt Ideal) (res m c) := by
  have h : (dats m 0 c).after 7 t = scn m c (scene t) := by
    rw [after0_7, iblk0, iblk1, iblk2, iblk3, iblk4, iblk5, iblk6]
    rfl
  show (cfg0.win 7).cut (grid0.coords t) ((dats m 0 c).after 7 t) = _
  rw [h]
  exact cut_eq (scn m c) t

/-- Point `t` writes the rows of scene `t`. -/
theorem mem_blk (t : Fin cfg0.N) (i : S32x64x128.Idx) (h : (i 0).val = t.val) : i ∈ ((cfg0.win 7).blk t).view.set := by
  have e := (at_point t).2.2.2
  show i ∈ ((View.whole main_v53).slice (win0_7.rect t)).set
  rw [View.set_slice_whole, Rect.mem_set_unit]
  have h1 : (i 1 : Nat) < 64 := (i 1).isLt
  have h2 : (i 2 : Nat) < 128 := (i 2).isLt
  intro a
  match a with
  | ⟨0, _⟩ => show win0_7.index t 0 * 1 ≤ (i 0 : Nat) ∧ (i 0 : Nat) < win0_7.index t 0 * 1 + 1
              rw [e.1]; omega
  | ⟨1, _⟩ => show win0_7.index t 1 * 64 ≤ (i 1 : Nat) ∧ (i 1 : Nat) < win0_7.index t 1 * 64 + 64
              rw [e.2.1]; omega
  | ⟨2, _⟩ => show win0_7.index t 2 * 128 ≤ (i 2 : Nat) ∧ (i 2 : Nat) < win0_7.index t 2 * 128 + 128
              rw [e.2.2]; omega

/-- So the result array ends as `res`. -/
theorem final_o : (dats m 0 c).arrAt 7 cfg0.N = res m c :=
  (dats m 0 c).arrAt_eq_of_cover 7 (res m c) (fun t _ => flushed_eq m c t) fun i =>
    ⟨⟨(i 0).val, by
      have h0 : (i 0).val < 32 := (i 0).isLt
      rw [show cfg0.N = 32 from N_0]; exact h0⟩, flush0_7 _, mem_blk _ i rfl⟩

/-- The kernel's run: its result is `res` and its arguments are unchanged. -/
theorem run : θ_run defs (onTc (τ := τ) (main (F := Ideal))) ⟨m, fun _ => 0, ρ⟩ (fun r => ∀ c : Dev nD,
      r.2.mem ((c.tc : Thread nD τ).loc main_v53) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 7).trans (final_o m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.Proof.KernelRun

end
-- ==== Proof.Blocks.lean ====
/-
  What the blocks of scene `b` hold, as functions of the kernel's arguments.
-/
module

public import proofs.«01_k».proof.Proof.KernelRun
public import proofs.«01_k».proof.Proof.Tables

@[expose] public section

set_option maxRecDepth 16384

noncomputable section

open Idealize.ShloMosaic Idealize.ShloMosaic.TcCoe Idealize.SL.Sem
open Cert.KernelIdeal Cert.KernelIdeal.Gen

namespace Cert.Proof.KernelRun

variable (m : (ℓ : Loc nD τ sig) → Buf (Elt Ideal) ℓ) (c : Dev nD)

/-- The kernel's arguments. -/
abbrev a1 : FVec Ideal S32x64x18x2 .f32 := m ((c.tc : Thread nD τ).loc main_arg1)
abbrev a2 : FVec Ideal S32x64x2 .f32 := m ((c.tc : Thread nD τ).loc main_arg2)
abbrev a3 : FVec Ideal S32x64x2 .f32 := m ((c.tc : Thread nD τ).loc main_arg3)
abbrev a4 : FVec Ideal S32x64x1 .f32 := m ((c.tc : Thread nD τ).loc main_arg4)
abbrev a5 : FVec Ideal S8x19x3x16x2 .f32 := m ((c.tc : Thread nD τ).loc main_arg5)
abbrev a6 : FVec Ideal S8x19x8 .f32 := m ((c.tc : Thread nD τ).loc main_arg6)
abbrev a7 : FVec Ideal S16x16x3x16x8 .f32 := m ((c.tc : Thread nD τ).loc main_arg7)
abbrev a8 : FVec Ideal S16x16x8 .f32 := m ((c.tc : Thread nD τ).loc main_arg8)
abbrev a9 : FVec Ideal S16x16x3x16x8 .f32 := m ((c.tc : Thread nD τ).loc main_arg9)
abbrev a10 : FVec Ideal S16x16x8 .f32 := m ((c.tc : Thread nD τ).loc main_arg10)

theorem bl0_eq (b : Fin 32) (k : Fin 8) (j : Fin 64) : bl0 m c b (ix3 0 k j) = Host.aux (a2 m c) (a4 m c) (ix3 b k j) :=
  congrFun (Host.v51_eq m c) (ix3 b k j)

theorem bl1_eq (b : Fin 32) (k : Fin 8) (j : Fin 64) : bl1 m c b (ix3 0 j k) = Host.aux (a2 m c) (a4 m c) (ix3 b k j) := by
  refine (congrFun (Host.v52_eq m c) (ix3 b j k)).trans ?_
  generalize Host.aux (m ((c.tc : Thread nD τ).loc main_arg2)) (m ((c.tc : Thread nD τ).loc main_arg4)) = A
  pointwise

theorem bl2_eq (b : Fin 32) (j : Fin 64) (i : Fin 19) (u : Fin 2) :
    bl2 m c b (ix3 0 j ⟨i.val * 2 + u.val, by omega⟩) = Host.vecs (a3 m c) (a1 m c) b j i u :=
  (congrFun (Host.v42_eq m c) _).trans (Host.feats_at _ _ b j i u)

theorem top_w (A B : FVec Ideal S128x6144 .bf16) (p : Fin 128) (k : Fin 6144) :
    concatenate S256x6144 0 [⟨S128x6144, A⟩, ⟨S128x6144, B⟩] concatenates_S128x6144_S128x6144_S256x6144_d0 (ix2 ⟨p.val, by omega⟩ k) = A (ix2 p k) := by
  pointwise

theorem low_w (A B : FVec Ideal S128x6144 .bf16) (p : Fin 128) (k : Fin 6144) :
    concatenate S256x6144 0 [⟨S128x6144, A⟩, ⟨S128x6144, B⟩] concatenates_S128x6144_S128x6144_S256x6144_d0 (ix2 ⟨128 + p.val, by omega⟩ k) = B (ix2 p k) := by
  pointwise

theorem top_d (A B : FVec Ideal S128x128 .bf16) (p k : Fin 128) :
    concatenate S256x128 0 [⟨S128x128, A⟩, ⟨S128x128, B⟩] concatenates_S128x128_S128x128_S256x128_d0 (ix2 ⟨p.val, by omega⟩ k) = A (ix2 p k) := by
  pointwise

theorem low_d (A B : FVec Ideal S128x128 .bf16) (p k : Fin 128) :
    concatenate S256x128 0 [⟨S128x128, A⟩, ⟨S128x128, B⟩] concatenates_S128x128_S128x128_S256x128_d0 (ix2 ⟨128 + p.val, by omega⟩ k) = B (ix2 p k) := by
  pointwise

theorem x5_top (p : Fin 128) (k : Fin 6144) : (V m c main_v16 (ix2 ⟨p.val, by omega⟩ k) : EReal) = Host.wz (a7 m c) (ix2 p k) :=
  (congrFun (Host.v16_eq m c) _).trans (top_w _ _ p k)

theorem x5_low (p : Fin 128) (k : Fin 6144) : (V m c main_v16 (ix2 ⟨128 + p.val, by omega⟩ k) : EReal) = Host.wz (a9 m c) (ix2 p k) :=
  (congrFun (Host.v16_eq m c) _).trans (low_w _ _ p k)

theorem x6_top (p k : Fin 128) : (V m c main_v27 (ix2 ⟨p.val, by omega⟩ k) : EReal) = Host.wl Host.tabT2 (a8 m c) (ix2 p k) :=
  (congrFun (Host.v27_eq m c) _).trans (top_d _ _ p k)

theorem x6_low (p k : Fin 128) : (V m c main_v27 (ix2 ⟨128 + p.val, by omega⟩ k) : EReal) = Host.wl Host.tabT3 (a10 m c) (ix2 p k) :=
  (congrFun (Host.v27_eq m c) _).trans (low_d _ _ p k)

end Cert.Proof.KernelRun

end
-- ==== Proof.Pre.lean ====
/-
  What the precondition says of the arguments: the masks are at least zero; the vectors and the weights of layer 1 are real numbers.
-/
module

public import proofs.«01_k».proof.Proof.Gen.Pre_finite_features
public import Idealize.ShloMosaic.Lib.ReduceAll
public import Idealize.ShloMosaic.Lib.Pointwise
public import Idealize.ShloMosaic.PureOps.Ideal

@[expose] public section

set_option maxRecDepth 16384

noncomputable section

open Idealize.ShloMosaic
open Cert.Pre_finite_features Cert.Pre_finite_features.Gen

namespace Cert.Proof.Pre

/-- The scalars have one index. -/
instance : Subsingleton S_.Idx := ⟨fun _ _ => funext fun a => a.elim0⟩

theorem le_of_oge {x y : EReal} (h : Ideal.cmp .oge x y = 1#1) : y ≤ x := by
  by_contra hc
  simp [Ideal.cmp, hc] at h

theorem lt_of_olt {x y : EReal} (h : Ideal.cmp .olt x y = 1#1) : x < y := by
  by_contra hc
  simp [Ideal.cmp, hc] at h

theorem inf_word : Ideal.ofBits FTy.f32 0x7F800000#32 = (⊤ : EReal) := by
  simp [Ideal.ofBits, Ideal.ieee]

theorem zero_word : Ideal.ofBits FTy.f32 0x00000000#32 = (0 : EReal) := by
  simp [Ideal.ofBits, Ideal.ieee]

/-- What lies below infinity, and its negative too, is a real number. -/
theorem real_of_abs {x : EReal} (h : max x (-x) < ⊤) : ∃ r : ℝ, x = r := by
  induction x with
  | bot => simp at h
  | top => simp at h
  | coe r => exact ⟨r, rfl⟩

theorem facts_of (x0 : FVec Ideal S32x64x18x2 .f32) (x1 : FVec Ideal S32x64x18x2 .f32) (x2 x3 : FVec Ideal S32x64x2 .f32)
    (x4 : FVec Ideal S32x64x1 .f32) (x5 : FVec Ideal S8x19x3x16x2 .f32) (x6 : FVec Ideal S8x19x8 .f32) (x7 : FVec Ideal S16x16x3x16x8 .f32)
    (x8 : FVec Ideal S16x16x8 .f32) (x9 : FVec Ideal S16x16x3x16x8 .f32) (x10 : FVec Ideal S16x16x8 .f32)
    (h : fn (F := Ideal) x0 x1 x2 x3 x4 x5 x6 x7 x8 x9 x10 = fun _ => 1#1) :
    (∀ i, (0 : EReal) ≤ x4 i) ∧ (∀ i, ∃ r : ℝ, x3 i = (r : EReal)) ∧ (∀ i, ∃ r : ℝ, x1 i = (r : EReal))
      ∧ (∀ i, ∃ r : ℝ, x5 i = (r : EReal)) ∧ ∀ i, ∃ r : ℝ, x6 i = (r : EReal) := by
  have e := congrFun h (fun a => a.elim0)
  unfold fn fn_part1 at e
  dsimp only at e
  obtain ⟨e, e6⟩ := IntOp.andi_eq_one.1 e
  obtain ⟨e, e5⟩ := IntOp.andi_eq_one.1 e
  obtain ⟨e, e1⟩ := IntOp.andi_eq_one.1 e
  obtain ⟨e4, e3⟩ := IntOp.andi_eq_one.1 e
  refine ⟨fun i => ?_, fun i => ?_, fun i => ?_, fun i => ?_, fun i => ?_⟩
  · exact zero_word.symm.trans_le (le_of_oge (Host.reduce_andi_all _ _ _ _ _ e4 i))
  · exact real_of_abs (lt_of_lt_of_eq (lt_of_olt (Host.reduce_andi_all _ _ _ _ _ e3 i)) inf_word)
  · exact real_of_abs (lt_of_lt_of_eq (lt_of_olt (Host.reduce_andi_all _ _ _ _ _ e1 i)) inf_word)
  · exact real_of_abs (lt_of_lt_of_eq (lt_of_olt (Host.reduce_andi_all _ _ _ _ _ e5 i)) inf_word)
  · exact real_of_abs (lt_of_lt_of_eq (lt_of_olt (Host.reduce_andi_all _ _ _ _ _ e6 i)) inf_word)

end Cert.Proof.Pre

end
-- ==== Proof.Equation.lean ====
/-
  The kernel's result is the reference's, for arguments that agree and meet the precondition.
-/
module

public import proofs.«01_k».proof.Proof.Match
public import proofs.«01_k».proof.Proof.Blocks
public import proofs.«01_k».proof.Proof.Pre

@[expose] public section

set_option maxRecDepth 16384

noncomputable section

open Idealize.ShloMosaic Idealize.ShloMosaic.TcCoe Idealize.SL.Sem
open Cert.KernelIdeal Cert.KernelIdeal.Gen

namespace Cert.Proof.KernelRun

variable (m : (ℓ : Loc nD τ sig) → Buf (Elt Ideal) ℓ) (c : Dev nD)

/-- The arguments that the reference is given are the kernel's. -/
structure Agree (V0 : Match.RV) : Prop where
  ve : (V0 (Proc.devRef .tc Cert.ReferenceIdeal.main_arg1) : FVec Ideal S32x64x18x2 .f32) = a1 m c
  p : Ref.pos V0 = a2 m c
  v : (V0 (Proc.devRef .tc Cert.ReferenceIdeal.main_arg3) : FVec Ideal S32x64x2 .f32) = a3 m c
  k : Ref.mask V0 = a4 m c
  w1 : Match.W1 V0 = a5 m c
  d1 : Match.D1 V0 = a6 m c
  w2 : Match.W2 V0 = a7 m c
  d2 : Match.D2 V0 = a8 m c
  w3 : Match.W3 V0 = a9 m c
  d3 : Match.D3 V0 = a10 m c

/-- What the precondition says. -/
structure Good : Prop where
  mask : ∀ i, (0 : EReal) ≤ a4 m c i
  v : ∀ i, ∃ r : ℝ, a3 m c i = (r : EReal)
  ve : ∀ i, ∃ r : ℝ, a1 m c i = (r : EReal)
  w : ∀ i, ∃ r : ℝ, a5 m c i = (r : EReal)
  d : ∀ i, ∃ r : ℝ, a6 m c i = (r : EReal)

/-- The blocks of scene `b` are what the equation for one scene asks. -/
theorem scene_of {V0 : Match.RV} (hA : Agree m c V0) (hG : Good m c) (b : Fin 32) :
    Match.Scene V0 b (bl0 m c b) (bl1 m c b) (bl2 m c b) (V m c main_v33) (V m c main_v39) (V m c main_v16) (V m c main_v27) where
  px j := by rw [hA.p]; exact (bl0_eq m c b 0 j).trans (Host.aux_x _ _ b j)
  py j := by rw [hA.p]; exact (bl0_eq m c b 1 j).trans (Host.aux_y _ _ b j)
  pk j := by rw [hA.k]; exact (bl0_eq m c b 2 j).trans (Host.aux_mask _ _ b j)
  qx i := by rw [hA.p]; exact (bl1_eq m c b 0 i).trans (Host.aux_x _ _ b i)
  qy i := by rw [hA.p]; exact (bl1_eq m c b 1 i).trans (Host.aux_y _ _ b i)
  fv j i u := by unfold Ref.vv; rw [hA.v, hA.ve]; exact bl2_eq m c b j i u
  c1 i u r t o n := by rw [hA.w1]; exact (congrFun (Host.v33_eq m c) _).trans (Host.wz1_at _ i u r t o n)
  d1 i u o n := by rw [hA.d1]; exact (congrFun (Host.v39_eq m c) _).trans (Host.wl1_at _ i u o n)
  c2 i k r u o n := by rw [hA.w2]; exact (x5_top m c ⟨i.val * 8 + k.val, by omega⟩ _).trans (Host.wz_at _ i k r u o n)
  c3 i k r u o n := by rw [hA.w3]; exact (x5_low m c ⟨i.val * 8 + k.val, by omega⟩ _).trans (Host.wz_at _ i k r u o n)
  d2 i k o n := by rw [hA.d2]; exact (x6_top m c ⟨i.val * 8 + k.val, by omega⟩ _).trans (Host.wl_at _ Host.tabT2_at _ i k o n)
  d3 i k o n := by rw [hA.d3]; exact (x6_low m c ⟨i.val * 8 + k.val, by omega⟩ _).trans (Host.wl_at _ Host.tabT3_at _ i k o n)
  mask_nonneg j := by rw [hA.k]; exact hG.mask _
  vec_real j i u := by
    unfold Ref.vv
    rw [hA.v, hA.ve]
    unfold Host.vecs
    split
    · exact hG.v _
    · exact hG.ve _
  w_real i := by rw [hA.w1]; exact hG.w i
  d_real i := by rw [hA.d1]; exact hG.d i

/-- The kernel's result is the reference's. -/
theorem res_eq {V0 : Match.RV} (hA : Agree m c V0) (hG : Good m c) : res m c = Ref.outT V0 := by
  suffices h : ∀ (b : Fin 32) (j : Fin 64) (q : Fin 128), res m c (ix3 b j q) = Ref.outT V0 (ix3 b j q) by
    funext i
    have e : i = ix3 (i 0) (i 1) (i 2) := funext fun a => by fin_cases a <;> rfl
    rw [e]
    exact h _ _ _
  intro b j q
  have hq : q = ⟨(⟨q.val / 8, by omega⟩ : Fin 16).val * 8 + (⟨q.val % 8, by omega⟩ : Fin 8).val, by dsimp only; omega⟩ :=
    Fin.ext (by dsimp only; omega)
  rw [hq]
  refine (Step.out_at _ _ _ _ _ _ _ j _).trans ?_
  exact Match.layer3_eq (scene_of m c hA hG b) j _ _

end Cert.Proof.KernelRun

end
-- ==== Proof.Claims.lean ====
/-
  The claims. The frames: every program runs to the end, leaves its arguments as they were and its semaphores at zero. The one entry of
  the ledger: the kernel's idealization is the kernel with one constant named by the real number that it rounds. And the equation: with
  exact arithmetic the kernel and the reference leave the same result, for arguments that meet the precondition.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equation
public import Idealize.ShloMosaic.Lib.Quiescent

@[expose] public section

noncomputable section

open Idealize.ShloMosaic Idealize.ShloMosaic.TcCoe Idealize.SL.Sem

namespace Cert.Proof

/-- The kernel as it is written runs to the end and keeps its arguments. -/
theorem frame_p : Cert.quiescent_Kernel (hKernel := Cert.Kernel.Gen.facts) := fun m ρ _ => Cert.Kernel.Gen.frame m ρ

/-- So does the kernel whose arithmetic is exact. -/
theorem frame_pi : Cert.quiescent_KernelIdeal (hKernelIdeal := Cert.KernelIdeal.Gen.facts) := fun m ρ _ => Cert.KernelIdeal.Gen.frame m ρ

/-- Also under the precondition. -/
theorem frame_pi_pre : Cert.quiescent_KernelIdeal_pre_finite_features (hKernelIdeal := Cert.KernelIdeal.Gen.facts)
    (hPre_finite_features := Cert.Pre_finite_features.Gen.facts) := fun m ρ _ => Cert.KernelIdeal.Gen.frame m ρ

/-- So does the reference whose arithmetic is exact. -/
theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Also under the precondition. -/
theorem frame_ri_pre : Cert.quiescent_ReferenceIdeal_pre_finite_features (hReferenceIdeal := Cert.ReferenceIdeal.Gen.facts)
    (hPre_finite_features := Cert.Pre_finite_features.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named constant: 16 divided by the number that both programs take for two pi. -/
theorem preserves : Cert.preserves_Kernel_KernelIdeal :=
  IdealRules.named_const.statement Cert.KernelIdeal.κ "inv_sector" .f32 0x4022F983#32 ((33554432 / 13176795 : ℝ) : EReal) rfl

/-- With exact arithmetic the kernel's result is the reference's. -/
theorem algebraic : Cert.algebraic_KernelIdeal_ReferenceIdeal_pre_finite_features (hKernelIdeal := Cert.KernelIdeal.Gen.facts)
    (hReferenceIdeal := Cert.ReferenceIdeal.Gen.facts) (hPre_finite_features := Cert.Pre_finite_features.Gen.facts) := by
  intro m ρ m' ρ' hpre hagree
  refine ⟨fun c => KernelRun.res m c, KernelRun.run m ρ, ?_⟩
  refine (θ_run Cert.ReferenceIdeal.defs _ _).mono (fun r h c => ⟨(h c).1.trans ?_, (h c).2⟩)
    (Cert.ReferenceIdeal.Value.run (F := Ideal) m' ρ')
  obtain ⟨-, e1, e2, e3, e4, e5, e6, e7, e8, e9, e10⟩ := hagree c
  obtain ⟨g4, g3, g1, g5, g6⟩ := Pre.facts_of _ _ _ _ _ _ _ _ _ _ _ (hpre c)
  exact (KernelRun.res_eq m c (V0 := StableHlo.launchContents m' c) ⟨e1, e2, e3, e4, e5, e6, e7, e8, e9, e10⟩ ⟨g4, g3, g1, g5, g6⟩).symm

end Cert.Proof

end
-- ==== Proof.lean ====
/-
  The proof of the claim: the programs' side conditions, then each claim by its theorem in Proof/Claims.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_features
public import proofs.«01_k».proof.Proof.Claims

@[expose] public section

noncomputable section

namespace Cert.Proof

theorem claim : Cert.Claim := ⟨Cert.Kernel.Gen.facts, Cert.KernelIdeal.Gen.facts, Cert.ReferenceIdeal.Gen.facts,
  Cert.Pre_finite_features.Gen.facts, frame_p, frame_pi, frame_pi_pre, frame_ri, frame_ri_pre, preserves, algebraic⟩

end Cert.Proof

end
